-- ==== Defs.lean ====
def Pre_Kernel [hPre_peaks_in_range : Cert.Pre_peaks_in_range.Facts] (m : (ℓ : Loc Cert.Kernel.nD Cert.Kernel.τ Cert.Kernel.sig) → Buf (Elt Bits) ℓ) : Prop :=
  ∀ c : Dev Cert.Kernel.nD,
    (Cert.Pre_peaks_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_peaks_in_range : Cert.Pre_peaks_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_peaks_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_peaks_in_range [hPre_peaks_in_range : Cert.Pre_peaks_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_peaks_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_peaks_in_range : Cert.Pre_peaks_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_peaks_in_range : Cert.Pre_peaks_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_peaks_in_range [hReferenceIdeal : Cert.ReferenceIdeal.Facts] [hPre_peaks_in_range : Cert.Pre_peaks_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_peaks_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log_step" .f32 0x3EEBC8E3#32 (((Real.log 1000) * 15⁻¹ : ℝ) : EReal)

def algebraic_KernelIdeal_ReferenceIdeal [hKernelIdeal : Cert.KernelIdeal.Facts] [hReferenceIdeal : Cert.ReferenceIdeal.Facts] [hPre_peaks_in_range : Cert.Pre_peaks_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_peaks_in_range : Cert.Pre_peaks_in_range.Facts),
    quiescent_Kernel (hKernel := hKernel) (hPre_peaks_in_range := hPre_peaks_in_range)
    ∧ quiescent_KernelIdeal (hKernelIdeal := hKernelIdeal) (hPre_peaks_in_range := hPre_peaks_in_range)
    ∧ quiescent_ReferenceIdeal (hReferenceIdeal := hReferenceIdeal)
    ∧ quiescent_ReferenceIdeal_pre_peaks_in_range (hReferenceIdeal := hReferenceIdeal) (hPre_peaks_in_range := hPre_peaks_in_range)
    ∧ preserves_Kernel_KernelIdeal
    ∧ algebraic_KernelIdeal_ReferenceIdeal (hKernelIdeal := hKernelIdeal) (hReferenceIdeal := hReferenceIdeal) (hPre_peaks_in_range := hPre_peaks_in_range)
-- ==== Pre_peaks_in_range.lean ====
abbrev S1024x1024x1 : Shape := ⟨3, ![1024, 1024, 1]⟩
abbrev S1024x50x1 : Shape := ⟨3, ![1024, 50, 1]⟩
abbrev S1024x1x1 : Shape := ⟨3, ![1024, 1, 1]⟩
abbrev S1x31 : Shape := ⟨2, ![1, 31]⟩
abbrev S31 : Shape := ⟨1, ![31]⟩
abbrev S_ : Shape := ⟨0, ![]⟩

class Facts : Prop where
  bcast_S_S1024x50x1 : S_.BroadcastsInDim S1024x50x1 (![] : Fin 0 → Fin S1024x50x1.rank)
  reducesTo_S1024x50x1_S_d0_1_2 : S1024x50x1.ReducesTo [0, 1, 2] S_
  h_S_ : 0 < S_.numel

variable [Facts]

def fn {F : FTy → Type} [FloatOps F] (main_arg0 : FVec F S1024x1024x1 .f32) (main_arg1 : IVec S1024x50x1 32) (main_arg2 : FVec F S1024x1x1 .f32) (main_arg3 : FVec F S1x31 .f32) (main_arg4 : FVec F S31 .f32) : IVec S_ 1 :=
  let main_c : IVec S_ 32 := constantI S_ 32 0#32
  let main_v0 : IVec S1024x50x1 32 := broadcastInDim S1024x50x1 ![] bcast_S_S1024x50x1 main_c
  let main_v1 : IVec S1024x50x1 1 := cmpi .sge main_arg1 main_v0
  let main_c_0 : IVec S_ 32 := constantI S_ 32 1024#32
  let main_v2 : IVec S1024x50x1 32 := broadcastInDim S1024x50x1 ![] bcast_S_S1024x50x1 main_c_0
  let main_v3 : IVec S1024x50x1 1 := cmpi .slt main_arg1 main_v2
  let main_v4 : IVec S1024x50x1 1 := andi main_v1 main_v3
  let main_c_1 : IVec S_ 1 := constantI S_ 1 1#1
  let main_v5 : IVec S_ 1 := (fun x v => Host.reduce IntOp.andi x v reducesTo_S1024x50x1_S_d0_1_2 h_S_) main_v4 main_c_1
  main_v5
-- ==== Kernel.lean ====
abbrev S1024x1024x1 : Shape := ⟨3, ![1024, 1024, 1]⟩
abbrev S1024x50x1 : Shape := ⟨3, ![1024, 50, 1]⟩
abbrev S1024x1x1 : Shape := ⟨3, ![1024, 1, 1]⟩
abbrev S1x31 : Shape := ⟨2, ![1, 31]⟩
abbrev S31 : Shape := ⟨1, ![31]⟩
abbrev S51200 : Shape := ⟨1, ![51200]⟩
abbrev S1048576 : Shape := ⟨1, ![1048576]⟩
abbrev S32768 : Shape := ⟨1, ![32768]⟩
abbrev S1600 : Shape := ⟨1, ![1600]⟩
abbrev S_ : Shape := ⟨0, ![]⟩
abbrev S16 : Shape := ⟨1, ![16]⟩
abbrev S1024x1024 : Shape := ⟨2, ![1024, 1024]⟩
abbrev S1024x1 : Shape := ⟨2, ![1024, 1]⟩
abbrev S1024x16 : Shape := ⟨2, ![1024, 16]⟩
abbrev S33 : Shape := ⟨1, ![33]⟩
abbrev S64 : Shape := ⟨1, ![64]⟩
abbrev S8x64 : Shape := ⟨2, ![8, 64]⟩
abbrev S1024x64x1024 : Shape := ⟨3, ![1024, 64, 1024]⟩
abbrev S64x256 : Shape := ⟨2, ![64, 256]⟩
abbrev S64x16 : Shape := ⟨2, ![64, 16]⟩
abbrev S64x64x256 : Shape := ⟨3, ![64, 64, 256]⟩
abbrev S1x16 : Shape := ⟨2, ![1, 16]⟩
abbrev S1x64 : Shape := ⟨2, ![1, 64]⟩
abbrev S64x32 : Shape := ⟨2, ![64, 32]⟩
abbrev S64x64 : Shape := ⟨2, ![64, 64]⟩
abbrev S64x8 : Shape := ⟨2, ![64, 8]⟩
abbrev S64x1 : Shape := ⟨2, ![64, 1]⟩
abbrev S1x256 : Shape := ⟨2, ![1, 256]⟩
abbrev S1x64x256 : Shape := ⟨3, ![1, 64, 256]⟩
abbrev S1024x1024x64 : Shape := ⟨3, ![1024, 1024, 64]⟩

abbrev nBuf : Table → Nat
  | .hbm => 23
  | .local .tc .vmem => 10
  | .local .scVector .vmem => 3
  | _ => 0

abbrev bufTy : (tb : Table) → Fin (nBuf tb) → BufTy
  | .hbm, ⟨0, _⟩ => ⟨S1024x1024x1, .f32⟩
  | .hbm, ⟨1, _⟩ => ⟨S1024x50x1, .i32⟩
  | .hbm, ⟨2, _⟩ => ⟨S1024x1x1, .f32⟩
  | .hbm, ⟨3, _⟩ => ⟨S1x31, .f32⟩
  | .hbm, ⟨4, _⟩ => ⟨S31, .f32⟩
  | .hbm, ⟨5, _⟩ => ⟨S51200, .i32⟩
  | .hbm, ⟨6, _⟩ => ⟨S51200, .i32⟩
  | .hbm, ⟨7, _⟩ => ⟨S1048576, .f32⟩
  | .hbm, ⟨8, _⟩ => ⟨S1024x1024, .f32⟩
  | .hbm, ⟨9, _⟩ => ⟨S1024x1024, .f32⟩
  | .hbm, ⟨10, _⟩ => ⟨S1024x1, .f32⟩
  | .hbm, ⟨11, _⟩ => ⟨S1024x16, .f32⟩
  | .hbm, ⟨12, _⟩ => ⟨S31, .f32⟩
  | .hbm, ⟨13, _⟩ => ⟨S_, .f32⟩
  | .hbm, ⟨14, _⟩ => ⟨S33, .f32⟩
  | .hbm, ⟨15, _⟩ => ⟨S64, .f32⟩
  | .hbm, ⟨16, _⟩ => ⟨S8x64, .f32⟩
  | .hbm, ⟨17, _⟩ => ⟨S_, .f32⟩
  | .hbm, ⟨18, _⟩ => ⟨S33, .f32⟩
  | .hbm, ⟨19, _⟩ => ⟨S64, .f32⟩
  | .hbm, ⟨20, _⟩ => ⟨S8x64, .f32⟩
  | .hbm, ⟨21, _⟩ => ⟨S1024x64x1024, .f32⟩
  | .hbm, ⟨22, _⟩ => ⟨S1024x1024x64, .f32⟩
  | .local .tc .vmem, ⟨0, _⟩ => ⟨S64x256, .f32⟩
  | .local .tc .vmem, ⟨1, _⟩ => ⟨S64x256, .f32⟩
  | .local .tc .vmem, ⟨2, _⟩ => ⟨S64x256, .f32⟩
  | .local .tc .vmem, ⟨3, _⟩ => ⟨S64x256, .f32⟩
  | .local .tc .vmem, ⟨4, _⟩ => ⟨S64x16, .f32⟩
  | .local .tc .vmem, ⟨5, _⟩ => ⟨S64x16, .f32⟩
  | .local .tc .vmem, ⟨6, _⟩ => ⟨S8x64, .f32⟩
  | .local .tc .vmem, ⟨7, _⟩ => ⟨S8x64, .f32⟩
  | .local .tc .vmem, ⟨8, _⟩ => ⟨S64x64x256, .f32⟩
  | .local .tc .vmem, ⟨9, _⟩ => ⟨S64x64x256, .f32⟩
  | .local .scVector .vmem, ⟨0, _⟩ => ⟨S32768, .f32⟩
  | .local .scVector .vmem, ⟨1, _⟩ => ⟨S1600, .i32⟩
  | .local .scVector .vmem, ⟨2, _⟩ => ⟨S1600, .i32⟩
  | _, _ => ⟨S1024x1024x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v0_scv : Ref sig .scVector := ⟨.hbm, 6, rfl⟩
abbrev main_c_scv : Ref sig .scVector := ⟨.hbm, 5, rfl⟩
abbrev main_v1_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg5_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  ![v2.toNat]
@[reducible] def k0_t1_loop : Scf.Loop 32 :=
  let c0_i32_1 : BitVec 32 := 0#32
  let c256_i32 : BitVec 32 := 256#32
  let v5 : BitVec 32 := Scalar.addi c0_i32_1 c256_i32
  let c1_i32 : BitVec 32 := 1#32
  ⟨c0_i32_1, v5, c1_i32⟩
def k0_off2 (k0_t1 : Fin k0_t1_loop.trips) (c0_i32_8 : BitVec 32) : Fin 1 → Nat :=
  let c0_i32_1 : BitVec 32 := 0#32
  let c1_i32 : BitVec 32 := 1#32
  let arg8 : BitVec 32 := Scf.iv c0_i32_1 c1_i32 k0_t1
  let c128_i32 : BitVec 32 := 128#32
  let v9 : BitVec 32 := Scalar.muli arg8 c128_i32
  let v10 : BitVec 32 := Scalar.addi v9 c0_i32_8
  let v11 : Index := Scalar.indexCast v10
  ![v11.toNat]
@[reducible] def k0_t2_loop : Scf.Loop 32 :=
  let c0_i32_5 : BitVec 32 := 0#32
  let c100_i32 : BitVec 32 := 100#32
  let v7 : BitVec 32 := Scalar.addi c0_i32_5 c100_i32
  let c1_i32_6 : BitVec 32 := 1#32
  ⟨c0_i32_5, v7, c1_i32_6⟩
def k0_off3 (k0_t2 : Fin k0_t2_loop.trips) : Fin 1 → Nat :=
  let c0_i32_5 : BitVec 32 := 0#32
  let c1_i32_6 : BitVec 32 := 1#32
  let arg8 : BitVec 32 := Scf.iv c0_i32_5 c1_i32_6 k0_t2
  let c16_i32 : BitVec 32 := 16#32
  let v9 : BitVec 32 := Scalar.muli arg8 c16_i32
  let v10 : Index := Scalar.indexCast v9
  ![v10.toNat]

def k0_chk1 (v15 : IVec S16 32) : Prop :=
  (∀ a x, ((![v15] : Fin 1 → IVec S16 32) a x).toNat < S32768.size a)
theorem k0_idx1_inb : ∀ (v15 : IVec S16 32) (k0_hw1 : k0_chk1 v15), ∀ a x, ((![v15] : Fin 1 → IVec S16 32) a x).toNat < S32768.size a := fun v15 k0_hw1 => k0_hw1
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v8 : BitVec 32 := Scalar.muli v1 c32768_i32
  ![v8.toNat]
abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S64x64x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "log_step" => some (((Real.log 1000) * 15⁻¹ : ℝ) : EReal)
  | _ => none
-- ==== ReferenceIdeal.lean ====
abbrev S1024x1024x1 : Shape := ⟨3, ![1024, 1024, 1]⟩
abbrev S1024x50x1 : Shape := ⟨3, ![1024, 50, 1]⟩
abbrev S1024x1x1 : Shape := ⟨3, ![1024, 1, 1]⟩
abbrev S1x31 : Shape := ⟨2, ![1, 31]⟩
abbrev S31 : Shape := ⟨1, ![31]⟩
abbrev S_ : Shape := ⟨0, ![]⟩
abbrev S15 : Shape := ⟨1, ![15]⟩
abbrev S1 : Shape := ⟨1, ![1]⟩
abbrev S16 : Shape := ⟨1, ![16]⟩
abbrev S1x16 : Shape := ⟨2, ![1, 16]⟩
abbrev S1x1x16 : Shape := ⟨3, ![1, 1, 16]⟩
abbrev S1024x1x16 : Shape := ⟨3, ![1024, 1, 16]⟩
abbrev S1024x1x32 : Shape := ⟨3, ![1024, 1, 32]⟩
abbrev S1024x1x1024x32 : Shape := ⟨4, ![1024, 1, 1024, 32]⟩
abbrev S1024x1024x32 : Shape := ⟨3, ![1024, 1024, 32]⟩
abbrev S1024x50 : Shape := ⟨2, ![1024, 50]⟩
abbrev S1048576 : Shape := ⟨1, ![1048576]⟩
abbrev S1024 : Shape := ⟨1, ![1024]⟩
abbrev S51200 : Shape := ⟨1, ![51200]⟩
abbrev S51200x1 : Shape := ⟨2, ![51200, 1]⟩
abbrev S1024x1024 : Shape := ⟨2, ![1024, 1024]⟩
abbrev S1024x1024x31 : Shape := ⟨3, ![1024, 1024, 31]⟩
abbrev S1x1x31 : Shape := ⟨3, ![1, 1, 31]⟩
abbrev S1024x1024x64 : Shape := ⟨3, ![1024, 1024, 64]⟩

abbrev nBuf : Space → Nat
  | .hbm => 104
  | .vmem => 0
  | .smem => 0
  | _ => 0

abbrev bufTy : (tb : Table) → Fin (tcTables nBuf tb) → BufTy
  | .hbm, ⟨0, _⟩ => ⟨S1024x1024x1, .f32⟩
  | .hbm, ⟨1, _⟩ => ⟨S1024x50x1, .i32⟩
  | .hbm, ⟨2, _⟩ => ⟨S1024x1x1, .f32⟩
  | .hbm, ⟨3, _⟩ => ⟨S1x31, .f32⟩
  | .hbm, ⟨4, _⟩ => ⟨S31, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S15, .f32⟩
  | .hbm, ⟨15, _⟩ => ⟨S_, .f32⟩
  | .hbm, ⟨16, _⟩ => ⟨S15, .f32⟩
  | .hbm, ⟨17, _⟩ => ⟨S15, .f32⟩
  | .hbm, ⟨18, _⟩ => ⟨S1, .f32⟩
  | .hbm, ⟨19, _⟩ => ⟨S_, .f32⟩
  | .hbm, ⟨20, _⟩ => ⟨S15, .f32⟩
  | .hbm, ⟨21, _⟩ => ⟨S15, .f32⟩
  | .hbm, ⟨22, _⟩ => ⟨S15, .f32⟩
  | .hbm, ⟨23, _⟩ => ⟨S15, .f32⟩
  | .hbm, ⟨24, _⟩ => ⟨S1, .f32⟩
  | .hbm, ⟨25, _⟩ => ⟨S15, .f32⟩
  | .hbm, ⟨26, _⟩ => ⟨S15, .f32⟩
  | .hbm, ⟨27, _⟩ => ⟨S15, .f32⟩
  | .hbm, ⟨28, _⟩ => ⟨S1, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S1x16, .f32⟩
  | .hbm, ⟨35, _⟩ => ⟨S1x1x16, .f32⟩
  | .hbm, ⟨36, _⟩ => ⟨S1024x1x16, .f32⟩
  | .hbm, ⟨37, _⟩ => ⟨S1024x1x16, .f32⟩
  | .hbm, ⟨38, _⟩ => ⟨S1024x1x16, .f32⟩
  | .hbm, ⟨39, _⟩ => ⟨S1024x1x16, .f32⟩
  | .hbm, ⟨40, _⟩ => ⟨S1x1x16, .f32⟩
  | .hbm, ⟨41, _⟩ => ⟨S1024x1x16, .f32⟩
  | .hbm, ⟨42, _⟩ => ⟨S1024x1x16, .f32⟩
  | .hbm, ⟨43, _⟩ => ⟨S1024x1x16, .f32⟩
  | .hbm, ⟨44, _⟩ => ⟨S1024x1x16, .f32⟩
  | .hbm, ⟨45, _⟩ => ⟨S1024x1x32, .f32⟩
  | .hbm, ⟨46, _⟩ => ⟨S1024x1x1024x32, .f32⟩
  | .hbm, ⟨47, _⟩ => ⟨S1024x1024x32, .f32⟩
  | .hbm, ⟨48, _⟩ => ⟨S1024x50, .i32⟩
  | .hbm, ⟨49, _⟩ => ⟨S_, .f32⟩
  | .hbm, ⟨50, _⟩ => ⟨S1048576, .f32⟩
  | .hbm, ⟨51, _⟩ => ⟨S1024, .i32⟩
  | .hbm, ⟨52, _⟩ => ⟨S1024x50, .i32⟩
  | .hbm, ⟨53, _⟩ => ⟨S51200, .i32⟩
  | .hbm, ⟨54, _⟩ => ⟨S51200, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S51200, .i32⟩
  | .hbm, ⟨59, _⟩ => ⟨S51200, .i32⟩
  | .hbm, ⟨60, _⟩ => ⟨S_, .i32⟩
  | .hbm, ⟨61, _⟩ => ⟨S51200, .i32⟩
  | .hbm, ⟨62, _⟩ => ⟨S51200, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S51200, .i32⟩
  | .hbm, ⟨67, _⟩ => ⟨S51200, .i32⟩
  | .hbm, ⟨68, _⟩ => ⟨S_, .i32⟩
  | .hbm, ⟨69, _⟩ => ⟨S51200, .i32⟩
  | .hbm, ⟨70, _⟩ => ⟨S51200, .i32⟩
  | .hbm, ⟨71, _⟩ => ⟨S_, .i32⟩
  | .hbm, ⟨72, _⟩ => ⟨S51200, .i32⟩
  | .hbm, ⟨73, _⟩ => ⟨S51200, .i32⟩
  | .hbm, ⟨74, _⟩ => ⟨S_, .i32⟩
  | .hbm, ⟨75, _⟩ => ⟨S51200, .i32⟩
  | .hbm, ⟨76, _⟩ => ⟨S51200, .i32⟩
  | .hbm, ⟨77, _⟩ => ⟨S_, .i32⟩
  | .hbm, ⟨78, _⟩ => ⟨S51200, .i32⟩
  | .hbm, ⟨79, _⟩ => ⟨S51200, .i32⟩
  | .hbm, ⟨80, _⟩ => ⟨S51200, .i32⟩
  | .hbm, ⟨81, _⟩ => ⟨S_, .i32⟩
  | .hbm, ⟨82, _⟩ => ⟨S51200, .i32⟩
  | .hbm, ⟨83, _⟩ => ⟨S51200, .i1⟩
  | .hbm, ⟨84, _⟩ => ⟨S_, .i32⟩
  | .hbm, ⟨85, _⟩ => ⟨S51200, .i32⟩
  | .hbm, ⟨86, _⟩ => ⟨S51200, .i32⟩
  | .hbm, ⟨87, _⟩ => ⟨S51200, .i32⟩
  | .hbm, ⟨88, _⟩ => ⟨S51200x1, .i32⟩
  | .hbm, ⟨89, _⟩ => ⟨S_, .f32⟩
  | .hbm, ⟨90, _⟩ => ⟨S51200, .f32⟩
  | .hbm, ⟨91, _⟩ => ⟨S1048576, .f32⟩
  | .hbm, ⟨92, _⟩ => ⟨S1024x1024, .f32⟩
  | .hbm, ⟨93, _⟩ => ⟨S_, .i32⟩
  | .hbm, ⟨94, _⟩ => ⟨S1, .i32⟩
  | .hbm, ⟨95, _⟩ => ⟨S_, .f32⟩
  | .hbm, ⟨96, _⟩ => ⟨S1024, .f32⟩
  | .hbm, ⟨97, _⟩ => ⟨S1024x1024, .f32⟩
  | .hbm, ⟨98, _⟩ => ⟨S1024x1024x1, .f32⟩
  | .hbm, ⟨99, _⟩ => ⟨S1024x1024x31, .f32⟩
  | .hbm, ⟨100, _⟩ => ⟨S1x1x31, .f32⟩
  | .hbm, ⟨101, _⟩ => ⟨S1024x1024x31, .f32⟩
  | .hbm, ⟨102, _⟩ => ⟨S1024x1024x31, .f32⟩
  | .hbm, ⟨103, _⟩ => ⟨S1024x1024x64, .f32⟩
  | _, _ => ⟨S1024x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c : Ref sig .tc := ⟨.hbm, 55, rfl⟩
abbrev main_c_3 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v26 : Ref sig .tc := ⟨.hbm, 62, rfl⟩
abbrev main_c_4 : Ref sig .tc := ⟨.hbm, 63, rfl⟩
abbrev main_c_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v27 : Ref sig .tc := ⟨.hbm, 70, rfl⟩
abbrev main_c_6 : Ref sig .tc := ⟨.hbm, 71, rfl⟩
abbrev main_v28 : Ref sig .tc := ⟨.hbm, 72, rfl⟩
abbrev main_v29 : Ref sig .tc := ⟨.hbm, 73, rfl⟩
abbrev main_c_7 : Ref sig .tc := ⟨.hbm, 74, rfl⟩
abbrev main_v30 : Ref sig .tc := ⟨.hbm, 75, rfl⟩
abbrev main_v31 : Ref sig .tc := ⟨.hbm, 76, rfl⟩
abbrev main_c_8 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_c_9 : Ref sig .tc := ⟨.hbm, 81, rfl⟩
abbrev main_v35 : Ref sig .tc := ⟨.hbm, 82, rfl⟩
abbrev main_v36 : Ref sig .tc := ⟨.hbm, 83, rfl⟩
abbrev main_c_10 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_cst_11 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_c_12 : Ref sig .tc := ⟨.hbm, 93, rfl⟩
abbrev main_v44 : Ref sig .tc := ⟨.hbm, 94, rfl⟩
abbrev main_cst_13 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩

abbrev nD : Nat := 1
abbrev τ : Topo := Topo.v7x

variable {F : FTy → Type} [FloatOps F]
-- ==== Proof.Scatter.lean ====
/-
  What the vector-subcore kernel computes, as pure functions: the contents of a task's accumulator after the lanes
  below `n` of its column list have been scattered, and the one-trip step of that function.
-/
module

public import proofs.«01_k».proof.Defs
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic

variable {F : FTy → Type} [FloatOps F]

/-- The lane of a one-axis shape at a natural number below its extent. -/
def ix (n k : ℕ) (h : k < n) : (⟨1, ![n]⟩ : Shape).Idx := Shape.ofLane (d := ![n]) ⟨k, h⟩

theorem ix_val (n k : ℕ) (h : k < n) (a : Fin 1) : (ix n k h a).val = k := by
  have : a = 0 := Fin.eq_zero a
  subst this; rfl

theorem idx1_ext {n : ℕ} {x y : (⟨1, ![n]⟩ : Shape).Idx} (h : (x 0).val = (y 0).val) : x = y := by
  funext a
  have : a = 0 := Fin.eq_zero a
  subst this; exact Fin.ext h

/-- Some lane below `n` has a nonzero column `s6 x` whose element number `s7 x + s6 x` is `j`. -/
def Hit (s6 s7 : S1600.Idx → BitVec 32) (n j : ℕ) : Prop :=
  ∃ x : S1600.Idx, (x 0).val < n ∧ s6 x ≠ 0#32 ∧ (s7 x + s6 x).toNat = j

/-- The words the kernel stores: zero and one. -/
abbrev zeroF : F .f32 := Scalar.ofBits .f32 0x00000000#32
abbrev oneF : F .f32 := Scalar.ofBits .f32 0x3F800000#32

open Classical in
/-- The accumulator after the lanes below `n`: one where hit, zero elsewhere. -/
def acc (s6 s7 : S1600.Idx → BitVec 32) (n : ℕ) : S32768.Idx → F .f32 :=
  fun j => if Hit s6 s7 n (j 0).val then oneF else zeroF

/-- No lane yet: zero everywhere. -/
theorem acc_zero (s6 s7 : S1600.Idx → BitVec 32) : acc (F := F) s6 s7 0 = fun _ => zeroF := by
  funext j
  unfold acc
  rw [if_neg]
  rintro ⟨x, hx, -⟩; omega

open Classical in
/-- A list of guarded updates, folded, all of which write one value: an element is that value if some update names it,
    and the old content otherwise. -/
theorem foldl_const {ι κ α : Type} (step : (ι → α) → κ → ι → α) (p : κ → ι → Prop) (y : α)
    (hs : ∀ g k i, step g k i = if p k i then y else g i) (j : ι) :
    ∀ (l : List κ) (f : ι → α), l.foldl step f j = if ∃ k ∈ l, p k j then y else f j
  | [], f => by simp
  | k :: l, f => by
    rw [List.foldl_cons, foldl_const step p y hs j l, hs]
    by_cases h : ∃ k' ∈ l, p k' j
    · rw [if_pos h, if_pos (by obtain ⟨k', h1, h2⟩ := h; exact ⟨k', List.mem_cons_of_mem _ h1, h2⟩)]
    · rw [if_neg h]
      by_cases hk : p k j
      · rw [if_pos hk, if_pos ⟨k, List.mem_cons_self, hk⟩]
      · rw [if_neg hk, if_neg]
        rintro ⟨k', h1, h2⟩
        rcases List.mem_cons.mp h1 with h1 | h1
        · exact hk (h1 ▸ h2)
        · exact h ⟨k', h1, h2⟩

/-- The mask bit of a nonzero word. -/
theorem cmpi_ne_zero (v : BitVec 32) : IntOp.cmpi .ne v 0#32 = 1#1 ↔ v ≠ 0#32 := by
  unfold IntOp.cmpi
  by_cases h : v = 0#32
  · subst h; decide
  · simp only [bne, beq_eq_false_iff_ne.mpr h]; simp [h]

/-- One trip: scattering lanes `16 k … 16 k + 15` takes the accumulator from lanes below `16 k` to lanes below `16 (k + 1)`. -/
theorem acc_step (s6 s7 : S1600.Idx → BitVec 32) (k : ℕ) (hk : 16 * k + 16 ≤ 1600)
    (v11 v15 : IVec S16 32) (h11 : ∀ x : S16.Idx, ∀ h : 16 * k + (x 0).val < 1600, v11 x = s6 (ix 1600 (16 * k + (x 0).val) h))
    (h15 : ∀ x : S16.Idx, ∀ h : 16 * k + (x 0).val < 1600, v15 x = s7 (ix 1600 (16 * k + (x 0).val) h) + s6 (ix 1600 (16 * k + (x 0).val) h))
    (f : Vec F S32768 .f32) (hf : f = acc (F := F) s6 s7 (16 * k))
    (hin : ∀ a x, ((![v15] : Fin S32768.rank → IVec S16 32) a x).toNat < S32768.size a) :
    storeIdx f ![v15] (k0_pay2 (F := F)) (k0_pay3 (F := F) v11) false hin = acc (F := F) s6 s7 (16 * (k + 1)) := by
  classical
  subst hf
  funext j
  unfold storeIdx
  refine (foldl_const (ι := S32768.Idx) (κ := Fin 16) (α := F .f32) _
    (fun (l : Fin 16) (i : S32768.Idx) => v11 (ix 16 l.val l.isLt) ≠ 0#32 ∧ (v15 (ix 16 l.val l.isLt)).toNat = (i 0).val)
    (oneF (F := F)) ?_ j (List.finRange 16) _).trans ?_
  · intro g l i
    have hm : k0_pay3 (F := F) v11 (ix 16 l.val l.isLt) = 1#1 ↔ v11 (ix 16 l.val l.isLt) ≠ 0#32 := cmpi_ne_zero _
    show (if k0_pay3 (F := F) v11 (ix 16 l.val l.isLt) = 1#1 then _ else g) i = _
    by_cases hv : v11 (ix 16 l.val l.isLt) ≠ 0#32
    · refine (congrFun (if_pos (hm.mpr hv)) i).trans ?_
      by_cases he : (v15 (ix 16 l.val l.isLt)).toNat = (i 0).val
      · refine (if_pos ?_).trans (Eq.trans ?_ (if_pos ⟨hv, he⟩).symm)
        · intro a
          have : a = 0 := Fin.eq_zero a
          subst this; exact he.symm
        · exact if_neg Bool.false_ne_true
      · exact (if_neg fun h => he (h 0).symm).trans (if_neg (fun h => he h.2)).symm
    · exact (congrFun (if_neg (fun h => hv (hm.mp h))) i).trans (if_neg (fun h => hv h.1)).symm
  · unfold acc
    by_cases h0 : Hit s6 s7 (16 * k) (j 0).val
    · have h1 : Hit s6 s7 (16 * (k + 1)) (j 0).val := by obtain ⟨x, hx, h⟩ := h0; exact ⟨x, by omega, h⟩
      rw [if_pos h0, if_pos h1]
      exact ite_self _
    · rw [if_neg h0]
      have hiff : (∃ l ∈ List.finRange 16, v11 (ix 16 l.val l.isLt) ≠ 0#32 ∧ (v15 (ix 16 l.val l.isLt)).toNat = (j 0).val) ↔ Hit s6 s7 (16 * (k + 1)) (j 0).val := by
        constructor
        · rintro ⟨l, -, h1, h2⟩
          have hl : ((ix 16 l.val l.isLt : S16.Idx) 0).val = l.val := rfl
          have hl16 : l.val < 16 := l.isLt
          have hb : 16 * k + ((ix 16 l.val l.isLt : S16.Idx) 0).val < 1600 := by omega
          refine ⟨ix 1600 _ hb, by rw [ix_val]; omega, ?_, ?_⟩
          · rw [← h11]; exact h1
          · rw [← h15]; exact h2
        · rintro ⟨x, hx, h1, h2⟩
          have hge : 16 * k ≤ (x 0).val := by
            by_contra hlt
            exact h0 ⟨x, by omega, h1, h2⟩
          have hx' : (x 0).val < 1600 := (x 0).isLt
          have hb : (x 0).val - 16 * k < 16 := by omega
          have hl : ((ix 16 ((x 0).val - 16 * k) hb : S16.Idx) 0).val = (x 0).val - 16 * k := rfl
          have hc : 16 * k + ((ix 16 ((x 0).val - 16 * k) hb : S16.Idx) 0).val < 1600 := by omega
          have e : ix 1600 _ hc = x := idx1_ext (by rw [ix_val]; omega)
          refine ⟨⟨(x 0).val - 16 * k, hb⟩, List.mem_finRange _, ?_, ?_⟩
          · rw [h11 _ hc, e]; exact h1
          · rw [h15 _ hc, e]; exact h2
      exact ite_congr (propext hiff) (fun _ => rfl) (fun _ => rfl)

/-- Everything below `n` is zero. -/
def Zeroed (n : ℕ) (f : S32768.Idx → F .f32) : Prop := ∀ j : S32768.Idx, (j 0).val < n → f j = zeroF

/-- All lanes zeroed is the accumulator with no lane scattered. -/
theorem zeroed_all (s6 s7 : S1600.Idx → BitVec 32) {f : S32768.Idx → F .f32} (h : Zeroed 32768 f) : f = acc (F := F) s6 s7 0 := by
  rw [acc_zero]; funext j; exact h j (j 0).isLt

/-- The contents of the tile's slices of the element list: lane `x` of row `w` is element `1600 w + x`. -/
def sl (v : S51200.Idx → BitVec 32) (w : ℕ) (hw : w < 32) : S1600.Idx → BitVec 32 :=
  fun x => v (ix 51200 (1600 * w + (x 0).val) (by have : (x 0).val < 1600 := (x 0).isLt; omega))

/-- The scattered array, flat: element `32768 w + r` is element `r` of task `w`'s accumulator. -/
def scat (pk rc : S51200.Idx → BitVec 32) : S1048576.Idx → F .f32 :=
  fun j => acc (F := F) (sl pk ((j 0).val / 32768) (by have : (j 0).val < 1048576 := (j 0).isLt; omega))
    (sl rc ((j 0).val / 32768) (by have : (j 0).val < 1048576 := (j 0).isLt; omega)) 1600
    (ix 32768 ((j 0).val % 32768) (by omega))

theorem scat_row (pk rc : S51200.Idx → BitVec 32) (w : ℕ) (hw : w < 32) (r : ℕ) (hr : r < 32768) (j : S1048576.Idx) (hj : (j 0).val = 32768 * w + r) :
    scat (F := F) pk rc j = acc (F := F) (sl pk w hw) (sl rc w hw) 1600 (ix 32768 r hr) := by
  have h1 : (j 0).val / 32768 = w := by omega
  have h2 : (j 0).val % 32768 = r := by omega
  clear hj
  subst h1; subst h2
  rfl

end Cert.Proof
-- ==== Proof.Rows.lean ====
/-
  What one task of the vector-subcore kernel holds: its rows of the two index lists and of the flat result, its three
  scratch buffers and semaphores, and the two loops' invariants.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Scatter

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the block pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ 𝕄) := by unfold EP embR; infer_instance

/-! ## The buffers -/

abbrev pLoc (d : Dev nD) : Loc nD τ sig := (SparseCore.T d).loc main_v0
abbrev cLoc (d : Dev nD) : Loc nD τ sig := (SparseCore.T d).loc main_c
abbrev oLoc (d : Dev nD) : Loc nD τ sig := (SparseCore.T d).loc main_v1

local notation "pV" => (Memref.whole Cert.KernelIdeal.main_v0_scv : Memref Cert.KernelIdeal.sig Kind.scVector Space.hbm Cert.KernelIdeal.S51200 EltTy.i32)
local notation "cVw" => (Memref.whole Cert.KernelIdeal.main_c_scv : Memref Cert.KernelIdeal.sig Kind.scVector Space.hbm Cert.KernelIdeal.S51200 EltTy.i32)
local notation "oV" => (Memref.whole Cert.KernelIdeal.main_v1_scv : Memref Cert.KernelIdeal.sig Kind.scVector Space.hbm Cert.KernelIdeal.S1048576 EltTy.f32)
local notation "aV" => (Memref.whole Cert.KernelIdeal.cc0_scratch0 : Memref Cert.KernelIdeal.sig Kind.scVector Space.vmem Cert.KernelIdeal.S32768 EltTy.f32)
local notation "sV" => (Memref.whole Cert.KernelIdeal.cc0_scratch1 : Memref Cert.KernelIdeal.sig Kind.scVector Space.vmem Cert.KernelIdeal.S1600 EltTy.i32)
local notation "rV" => (Memref.whole Cert.KernelIdeal.cc0_scratch2 : Memref Cert.KernelIdeal.sig Kind.scVector Space.vmem Cert.KernelIdeal.S1600 EltTy.i32)

theorem idiv : 32 ∣ S51200.size 0 := ⟨1600, rfl⟩
theorem odiv : 32 ∣ S1048576.size 0 := ⟨32768, rfl⟩
abbrev irow (w : Fin 32) : Rect S51200 := Rect.part (s := S51200) (a₀ := 0) idiv w
abbrev orow (w : Fin 32) : Rect S1048576 := Rect.part (s := S1048576) (a₀ := 0) odiv w
abbrev pRowSet (w : Fin 32) : Finset S51200.Idx := ((pV).view.slice (irow w)).set
abbrev oRowSet (w : Fin 32) : Finset S1048576.Idx := ((oV).view.slice (orow w)).set

/-! ## What a task holds -/

/-- Row `w` of the flat column list, of the row offsets, and of the flat result. -/
abbrev pRow (d : Dev nD) (w : Fin 32) (f : Buf (Elt F) (pLoc d)) : sProp 𝕄 := pLoc d ↦[pRowSet w]{fullShare} f
abbrev cRow (d : Dev nD) (w : Fin 32) (f : Buf (Elt F) (cLoc d)) : sProp 𝕄 := cLoc d ↦[pRowSet w]{fullShare} f
abbrev oRow (d : Dev nD) (w : Fin 32) (f : Buf (Elt F) (oLoc d)) : sProp 𝕄 := oLoc d ↦[oRowSet w]{fullShare} f

/-- What the proof asks of the two index lists: every sum names an element of a task's accumulator. -/
def PreOK (pk rc : S51200.Idx → BitVec 32) : Prop := ∀ j, (rc j + pk j).toNat < 32768

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task's number: twice its subcore plus its SparseCore. -/
def wL (L : grid0.Coords) : Fin 32 := ⟨2 * (L 1).val + (L 0).val, by
  have h1 : (L 1).val < 16 := (L 1).isLt
  have h0 : (L 0).val < 2 := (L 0).isLt
  omega⟩

abbrev irowK (L : grid0.Coords) : Rect S51200 := Rect.unit (s := S51200) (k0_off1 L) S1600.size (k0_off1_inb L)
abbrev orowK (L : grid0.Coords) : Rect S1048576 := Rect.unit (s := S1048576) (k0_off4 L) S32768.size (k0_off4_inb L)
abbrev pRowK (L : grid0.Coords) : Memref sig .scVector .hbm S1600 .i32 := (pV).slice (irowK L) (fun _ => rfl)
abbrev cRowK (L : grid0.Coords) : Memref sig .scVector .hbm S1600 .i32 := (cVw).slice (irowK L) (fun _ => rfl)
abbrev oRowK (L : grid0.Coords) : Memref sig .scVector .hbm S32768 .f32 := (oV).slice (orowK L) (fun _ => rfl)

theorem irowK_eq : irowK L = irow (wL L) := by
  unfold irowK irow Rect.part Rect.block
  congr 1 <;> funext a
  · rw [k0_off1_eq]
    match a with
    | 0 => simp [Shape.partIx, Shape.partSize, wL]; omega
  · match a with
    | 0 => simp [Shape.partSize]
theorem orowK_eq : orowK L = orow (wL L) := by
  unfold orowK orow Rect.part Rect.block
  congr 1 <;> funext a
  · rw [k0_off4_eq]
    match a with
    | 0 => simp [Shape.partIx, Shape.partSize, wL]; omega
  · match a with
    | 0 => simp [Shape.partSize]

theorem set_pRowK : (pRowK L).view.set = pRowSet (wL L) := by
  show ((pV).view.slice (irowK L)).set = _
  exact irowK_eq L ▸ rfl
theorem set_oRowK : (oRowK L).view.set = oRowSet (wL L) := by
  show ((oV).view.slice (orowK L)).set = _
  exact orowK_eq L ▸ rfl

theorem pts_pRowK (f : Buf (Elt F) (pLoc d)) :
    ((pRowK L).view.loc (V d (cV L) (jV L)) ↦[(pRowK L).view.set]{fullShare} f : sProp 𝕄) = pRow d (wL L) f := by
  rw [set_pRowK]
theorem pts_cRowK (f : Buf (Elt F) (cLoc d)) :
    ((cRowK L).view.loc (V d (cV L) (jV L)) ↦[(cRowK L).view.set]{fullShare} f : sProp 𝕄) = cRow d (wL L) f := by
  rw [show (cRowK L).view.set = (pRowK L).view.set from rfl, set_pRowK]
theorem pts_oRowK (f : Buf (Elt F) (oLoc d)) :
    ((oRowK L).view.loc (V d (cV L) (jV L)) ↦[(oRowK L).view.set]{fullShare} f : sProp 𝕄) = oRow d (wL L) f := by
  rw [set_oRowK]
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
theorem pts_sV (f : Buf (Elt F) ((V d (cV L) (jV L)).loc cc0_scratch1)) :
    ((sV).view.loc (V d (cV L) (jV L)) ↦{fullShare} f : sProp 𝕄) = (V d (cV L) (jV L)).loc cc0_scratch1 ↦{fullShare} f := rfl
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-- A task's row read out of the flat list: lane `x` is element `1600 w + x`. -/
theorem read_pRowK (pk : S51200.Idx → BitVec 32) : (pRowK L).view.read (Elt F) pk = sl pk (wL L).val (wL L).isLt := by
  funext x
  refine ((View.read_apply _ _).trans (cast_eq _ _)).trans ?_
  unfold sl
  congr 1
  apply idx1_ext
  rw [ix_val]
  show (((pRowK L).view.emb x) 0).val = _
  show k0_off1 L 0 + 1 * (x 0).val = _
  rw [k0_off1_eq]
  show 3200 * (L 1).val + 1600 * (L 0).val + 1 * (x 0).val = 1600 * (2 * (L 1).val + (L 0).val) + (x 0).val
  omega

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- Storing zeros at lanes `n … n + 15` extends what is zeroed. -/
theorem zeroed_step (f : (aV).view.ty.Contents (Elt F)) (Ls : List (View.Piece (Elt F) S32768 .f32)) (off : Fin 1 → ℕ) (inb : ∀ a, off a + S16.size a ≤ S32768.size a) (n : ℕ)
    (ho : off = ![n]) (h : Zeroed (F := F) n ((aV).view.writes (Elt F) f Ls)) :
    Zeroed (F := F) (n + 16) ((aV).view.writes (Elt F) f (⟨Rect.unit (s := S32768) off S16.size inb, k0_pay1 (F := F)⟩ :: Ls)) := by
  intro j hj
  subst ho
  by_cases hlt : (j 0).val < n
  · exact (View.read_writes_cons_miss_of_axis (aV).view f _ Ls j 0 n 16 rfl rfl rfl (.inl hlt)).trans (h j hlt)
  · refine (View.read_writes_cons_hit (aV).view f (Rect.unit (s := S32768) ![n] S16.size inb) (k0_pay1 (F := F)) Ls (ix 16 ((j 0).val - n) (by omega)) j ?_).trans rfl
    apply idx1_ext
    show n + 1 * ((j 0).val - n) = (j 0).val
    omega

/-- A trip's sixteen lanes of a fetched list, loaded. -/
theorem lanes_s (s : (sV).view.ty.Contents (Elt F)) (k : Fin k0_t2_loop.trips) (x : S16.Idx) (h : 16 * k.val + (x 0).val < 1600) :
    View.readAt (Elt F) (sV).view (Rect.unit (s := S1600) (k0_off3 k) S16.size (k0_off3_inb k)).toLoadRect s x = (s (ix 1600 (16 * k.val + (x 0).val) h) : BitVec 32) := by
  rw [View.readAt_apply]
  show s _ = _
  congr 1
  apply idx1_ext
  show k0_off3 k 0 + 1 * (x 0).val = 16 * k.val + (x 0).val
  rw [k0_off3_eq]
  show 16 * k.val + 1 * (x 0).val = _
  omega
theorem lanes_r (s : (rV).view.ty.Contents (Elt F)) (k : Fin k0_t2_loop.trips) (x : S16.Idx) (h : 16 * k.val + (x 0).val < 1600) :
    View.readAt (Elt F) (rV).view (Rect.unit (s := S1600) (k0_off3 k) S16.size (k0_off3_inb k)).toLoadRect s x = (s (ix 1600 (16 * k.val + (x 0).val) h) : BitVec 32) := by
  rw [View.readAt_apply]
  show s _ = _
  congr 1
  apply idx1_ext
  show k0_off3 k 0 + 1 * (x 0).val = 16 * k.val + (x 0).val
  rw [k0_off3_eq]
  show 16 * k.val + 1 * (x 0).val = _
  omega

theorem pts_aV_whole (f : Buf (Elt F) ((V d (cV L) (jV L)).loc cc0_scratch0)) :
    (((aV).access (.whole S32768)).loc (V d (cV L) (jV L)) ↦[((aV).access (.whole S32768)).set]{fullShare} f : sProp 𝕄)
      = (aV).view.loc (V d (cV L) (jV L)) ↦{fullShare} f := by
  rw [show ((aV).access (.whole S32768)).set = Finset.univ from Memref.set_access_whole (cc0_scratch0 : Ref sig .scVector)]

/-- The task's row of the result, written with its accumulator, is the scattered array's. -/
theorem row_done (pk rc : S51200.Idx → BitVec 32) (fo : Buf (Elt F) (oLoc d)) :
    ((oRowK L).view.loc (V d (cV L) (jV L)) ↦[(oRowK L).view.set]{fullShare}
      ((oRowK L).view.writes (Elt F) fo [⟨Rect.whole S32768, acc (F := F) (sl pk (wL L).val (wL L).isLt) (sl rc (wL L).val (wL L).isLt) 1600⟩]) : sProp 𝕄)
      = (oRowK L).view.loc (V d (cV L) (jV L)) ↦[(oRowK L).view.set]{fullShare} (scat (F := F) pk rc) := by
  refine pointsTo_congr fun i hi => ?_
  obtain ⟨x, -, hx⟩ := Finset.mem_map.mp hi
  subst hx
  have hr : (x 0).val < 32768 := (x 0).isLt
  rw [scat_row (F := F) pk rc (wL L).val (wL L).isLt (x 0).val hr]
  · have h := View.read_writes_cons_hit (Val := Elt F) (oRowK L).view fo (Rect.whole S32768)
      (acc (F := F) (sl pk (wL L).val (wL L).isLt) (sl rc (wL L).val (wL L).isLt) 1600) [] x x
      (idx1_ext (by rw [Rect.emb_apply]; show 0 + 1 * (x 0).val = _; omega))
    rw [View.read_apply] at h
    exact (cast_eq _ _).symm.trans h
  · show k0_off4 L 0 + 1 * (x 0).val = 32768 * (2 * (L 1).val + (L 0).val) + (x 0).val
    rw [k0_off4_eq]
    show 65536 * (L 1).val + 32768 * (L 0).val + 1 * (x 0).val = _
    omega

/-- The zeroing loop's invariant: the accumulator is zero below the trip's lanes. -/
def inv1 (k : ℕ) (_ : Unit) : sProp 𝕄 :=
  iprop(∃ f : Buf (Elt F) ((aV).view.loc (V d (cV L) (jV L))), ⌜Zeroed (F := F) (128 * k) f⌝ ∗ (aV).view.loc (V d (cV L) (jV L)) ↦{fullShare} f)

/-- The scattering loop's invariant: the two lists as fetched, and the accumulator with the lanes below the trip's scattered. -/
def inv2 (s6 s7 : S1600.Idx → BitVec 32) (k : ℕ) (_ : Unit) : sProp 𝕄 :=
  iprop(((sV).view.loc (V d (cV L) (jV L)) ↦{fullShare} s6) ∗ ((rV).view.loc (V d (cV L) (jV L)) ↦{fullShare} s7)
    ∗ ((aV).view.loc (V d (cV L) (jV L)) ↦{fullShare} acc (F := F) s6 s7 (16 * k)))

end Tile

end Cert.Proof
-- ==== Proof.Tile.lean ====
/-
  One task of the vector-subcore kernel, run once at a symbolic (SparseCore, tile): from its rows of the two index
  lists and of the flat result, to the same rows with the result's at the scattered values.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "pV" => (Memref.whole Cert.KernelIdeal.main_v0_scv : Memref Cert.KernelIdeal.sig Kind.scVector Space.hbm Cert.KernelIdeal.S51200 EltTy.i32)
local notation "cVw" => (Memref.whole Cert.KernelIdeal.main_c_scv : Memref Cert.KernelIdeal.sig Kind.scVector Space.hbm Cert.KernelIdeal.S51200 EltTy.i32)
local notation "oV" => (Memref.whole Cert.KernelIdeal.main_v1_scv : Memref Cert.KernelIdeal.sig Kind.scVector Space.hbm Cert.KernelIdeal.S1048576 EltTy.f32)
local notation "aV" => (Memref.whole Cert.KernelIdeal.cc0_scratch0 : Memref Cert.KernelIdeal.sig Kind.scVector Space.vmem Cert.KernelIdeal.S32768 EltTy.f32)
local notation "sV" => (Memref.whole Cert.KernelIdeal.cc0_scratch1 : Memref Cert.KernelIdeal.sig Kind.scVector Space.vmem Cert.KernelIdeal.S1600 EltTy.i32)
local notation "rV" => (Memref.whole Cert.KernelIdeal.cc0_scratch2 : Memref Cert.KernelIdeal.sig Kind.scVector Space.vmem Cert.KernelIdeal.S1600 EltTy.i32)

section Tile

variable (d : Dev nD) (L : grid0.Coords)

set_option maxHeartbeats 4000000 in
/-- The task on vector subcore `(L 0, L 1)` of device `d`: the two fetches, the zeroing loop, the scattering loop and the
    write-out; the result's row ends at the scattered array's. -/
theorem tile_body (hF : (K (F := F)).Facts) (pk : Buf (Elt F) (pLoc d)) (rc : Buf (Elt F) (cLoc d)) (fo : Buf (Elt F) (oLoc d)) (hpre : PreOK pk rc)
    (O : CellTallies nD τ sig (HIx 1)) (W : Waits sig (HIx 1)) (hO : ∀ g, O g none = 0) :
    iprop(levAts (K (F := F)).L (K (F := F)).lev ∗ emp
        ∗ (pRow d (wL L) pk ∗ cRow d (wL L) rc ∗ oRow d (wL L) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_scatter L pV (Memref.isWhole_whole _) cVw (Memref.isWhole_whole _) oV (Memref.isWhole_whole _)
            aV (Memref.isWhole_whole _) sV (Memref.isWhole_whole _) rV (Memref.isWhole_whole _) cc0_scoped0 cc0_scoped1 cc0_scoped2)
          fun _ => iprop((pRow d (wL L) pk ∗ cRow d (wL L) rc ∗ oRow d (wL L) (scat (F := F) pk rc))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_scatter_eq_skeleton]; unfold cc0_sc_scatter_skel
  rw [(K (F := F)).scopedBufs_V hF d (cV L) (jV L), SparseCore.Cfg.scopedSems0_V (Val := Elt F) d (cV L) (jV L), ownSems0_V, ownBufs_V]
  iintro ⟨#Hlv, -, ⟨Hp, Hc, Ho⟩, ⟨⟨%fa, Ha⟩, ⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (pts_pRowK (F := F) d L _).symm) $$ Hp
  ihave Hc' := (Entails.of_eq (pts_cRowK (F := F) d L _).symm) $$ Hc
  ihave Ho' := (Entails.of_eq (pts_oRowK (F := F) d L _).symm) $$ Ho
  ihave Ha' := (Entails.of_eq (pts_aV (F := F) d L _).symm) $$ Ha
  ihave Hs' := (Entails.of_eq (pts_sV (F := F) d L _).symm) $$ Hs
  ihave Hr' := (Entails.of_eq (pts_rV (F := F) d L _).symm) $$ Hr
  sl_exec
  have hp : tile_body.sl.dma0 (F := F) d L pk = sl pk (wL L).val (wL L).isLt := read_pRowK (F := F) L pk
  have hc : tile_body.sl.dma0_1 (F := F) d L rc = sl rc (wL L).val (wL L).isLt := read_pRowK (F := F) L rc
  obtain ⟨s6, hs6⟩ : ∃ s, sl pk (wL L).val (wL L).isLt = s := ⟨_, rfl⟩
  obtain ⟨s7, hs7⟩ : ∃ s, sl rc (wL L).val (wL L).isLt = s := ⟨_, rfl⟩
  rw [hs6] at hp; rw [hs7] at hc
  ihave Hs := (Entails.of_eq (show ((sV).view.loc (V d (cV L) (jV L)) ↦{fullShare} View.write (Elt F) (sV).view fs (tile_body.sl.dma0 (F := F) d L pk) Finset.univ : sProp 𝕄)
      = (sV).view.loc (V d (cV L) (jV L)) ↦{fullShare} s6 by rw [View.write_whole_univ, hp])) $$ Hs'
  ihave Hr := (Entails.of_eq (show ((rV).view.loc (V d (cV L) (jV L)) ↦{fullShare} View.write (Elt F) (rV).view fr (tile_body.sl.dma0_1 (F := F) d L rc) Finset.univ : sProp 𝕄)
      = (rV).view.loc (V d (cV L) (jV L)) ↦{fullShare} s7 by rw [View.write_whole_univ, hc])) $$ Hr'
  sl_for (inv1 (F := F) d L) $$ [Ha']
  case region =>
    intro k _
    unfold inv1
    iintro ⟨%f, %hf, Ha⟩
    sl_exec
    sl_step
    iexists _; isplitr; rotate_left
    · iexact Ha
    · ipureintro
      have e : 128 * (k.val + 1) = 128 * k.val + 0 + 16 + 16 + 16 + 16 + 16 + 16 + 16 + 16 := by omega
      rw [e]
      refine zeroed_step f _ _ _ _ (k0_off2_eq k 7) ?_
      refine zeroed_step f _ _ _ _ (k0_off2_eq k 6) ?_
      refine zeroed_step f _ _ _ _ (k0_off2_eq k 5) ?_
      refine zeroed_step f _ _ _ _ (k0_off2_eq k 4) ?_
      refine zeroed_step f _ _ _ _ (k0_off2_eq k 3) ?_
      refine zeroed_step f _ _ _ _ (k0_off2_eq k 2) ?_
      refine zeroed_step f _ _ _ _ (k0_off2_eq k 1) ?_
      exact zeroed_step f _ _ _ _ (k0_off2_eq k 0) hf
  · unfold inv1
    iexists fa; isplitr
    · ipureintro; intro j hj; omega
    · iexact Ha'
  iintro %_ HI
  unfold inv1
  icases HI with ⟨%f1, %hf1, Ha⟩
  have hf1' : f1 = acc (F := F) s6 s7 (16 * 0) := zeroed_all s6 s7 (by exact hf1)
  subst hf1'
  sl_for (inv2 (F := F) d L s6 s7) $$ [Ha Hs Hr]
  case region =>
    intro k _
    unfold inv2
    iintro ⟨Hs, Hr, Ha⟩
    sl_exec
    have hk : k.val < 100 := Nat.lt_of_lt_of_le k.isLt k0_t2_abs.2.1
    have h15 : ∀ (x : S16.Idx) (h : 16 * k.val + (x 0).val < 1600), tile_body.sl.v15 (F := F) s6 s7 k x = s7 (ix 1600 (16 * k.val + (x 0).val) h) + s6 (ix 1600 (16 * k.val + (x 0).val) h) := by
      intro x h
      have e1 := lanes_r (F := F) s7 k x h
      have e2 := lanes_s (F := F) s6 k x h
      show IntOp.addi (View.readAt (Elt F) (rV).view (Rect.unit (s := S1600) (k0_off3 k) S16.size (k0_off3_inb k)).toLoadRect s7 x)
        (View.readAt (Elt F) (sV).view (Rect.unit (s := S1600) (k0_off3 k) S16.size (k0_off3_inb k)).toLoadRect s6 x) = _
      rw [e1, e2]; rfl
    have hchk : k0_chk1 (tile_body.sl.v15 (F := F) s6 s7 k) := by
      intro a x
      have : a = 0 := Fin.eq_zero a
      subst this
      have hx : (x 0).val < 16 := (x 0).isLt
      have e := h15 x (by omega)
      show (tile_body.sl.v15 (F := F) s6 s7 k x).toNat < 32768
      rw [e, ← hs6, ← hs7]
      exact hpre _
    rw [wp_assume_of _ _ _ _ hchk]
    ihave Ha' := (Entails.of_eq (pts_aV_whole (F := F) d L _).symm) $$ Ha
    iapply (SparseCore.wp_vectorStoreIdx 𝒱₀ (V d (cV L) (jV L)) none Set.univ (base := (aV : Memref sig .scVector .vmem S32768 .f32))) $$ Ha'; iintro Ha'
    ihave Ha := (Entails.of_eq (pts_aV_whole (F := F) d L _)) $$ Ha'
    rw [Memref.write_access_whole_univ, Memref.read_access_whole, acc_step (F := F) s6 s7 k.val (by omega) _ _ (fun x h => lanes_s (F := F) s6 k x h) h15 _ rfl]
    sl_step
    isplitl [Hs]; · iexact Hs
    isplitl [Hr] <;> iassumption
  · unfold inv2
    isplitl [Hs]; · iexact Hs
    isplitl [Hr] <;> iassumption
  iintro %_ HI
  unfold inv2
  icases HI with ⟨Hs, Hr, Ha⟩
  sl_exec
  sl_step
  have hd : tile_body.sl.dma0_2 (F := F) s6 s7 = acc (F := F) s6 s7 1600 := rfl
  isplitl [Hp' Hc' Ho']
  · isplitl [Hp']; · iapply (Entails.of_eq (pts_pRowK (F := F) d L _)); iexact Hp'
    isplitl [Hc']; · iapply (Entails.of_eq (pts_cRowK (F := F) d L _)); iexact Hc'
    iapply (Entails.of_eq (pts_oRowK (F := F) d L _))
    iapply (Entails.of_eq (row_done (F := F) d L pk rc fo))
    rw [hs6, hs7, ← hd]
    iexact Ho'
  isplitl [Ha Hs Hr Hbufs]
  · isplitl [Ha]; · iexists _; iexact Ha
    isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped2.sem, (default : HIx 1)) (insert (SemLoc.dma cc0_scoped1.sem, (default : HIx 1)) (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp
  · iexact HO

end Tile

end Cert.Proof
-- ==== Proof.Piece.lean ====
/-
  What the TensorCore kernel stores: one batch row of a result block is, feature by feature and point by point,
  `w * s + (d if the feature is 31, else the folded bias)`.
-/
module

public import proofs.«01_k».proof.Proof.Tile
public import proofs.«01_k».proof.Proof.Gen.KernelIdeal.Skeleton
public import Idealize.ShloMosaic.Lib.Pointwise
public import Idealize.ShloMosaic.Lib.Pipeline.Value
public import Idealize.ShloMosaic.Lib.ValueIdx

@[expose] public section

noncomputable section

namespace Cert.Proof

open Cert.KernelIdeal Cert.KernelIdeal.Gen
open Idealize.ShloMosaic

variable {F : FTy → Type} [FloatOps F] [Named F]

/-- Coordinates of the matrices below, from their components. -/
def mat (a : Fin 64) (l : Fin 256) : S64x256.Idx := Fin.cons a (Fin.cons l finZeroElim)
def sqr (a b : Fin 64) : S64x64.Idx := Fin.cons a (Fin.cons b finZeroElim)
def rowI (l : Fin 256) : S1x256.Idx := Fin.cons (0 : Fin 1) (Fin.cons l finZeroElim)
def colI (a : Fin 64) : S64x1.Idx := Fin.cons a (Fin.cons (0 : Fin 1) finZeroElim)

/-- A block coordinate's batch row, feature and point. -/
def bRow (y : S64x64x256.Idx) : Fin 64 := ⟨(y 0).val, (y 0).isLt⟩
def bFeat (y : S64x64x256.Idx) : Fin 64 := ⟨(y 1).val, (y 1).isLt⟩
def bPt (y : S64x64x256.Idx) : Fin 256 := ⟨(y 2).val, (y 2).isLt⟩

/-- The block's value at a coordinate (batch row, feature, point), from the broadcast weight `w`, the mask of feature
    31, the block's points `s` and peaks `d`, and the folded bias `b` (feature by batch row). -/
def cell (b : FVec F S64x64 .f32) (w : FVec F S64x256 .f32) (q : IVec S64x256 1) (s d : FVec F S64x256 .f32)
    (y : S64x64x256.Idx) : F .f32 :=
  FloatOps.addf (FloatOps.mulf (w (mat (bFeat y) (bPt y))) (s (mat (bRow y) (bPt y))))
    (if q (mat (bFeat y) (bPt y)) = 1#1 then d (mat (bRow y) (bPt y)) else b (sqr (bFeat y) (bRow y)))

/-- What the body stores for batch row `n`. -/
def rowPay (b : FVec F S64x64 .f32) (w : FVec F S64x256 .f32) (q : IVec S64x256 1) (s d : FVec F S64x256 .f32) (n : ℕ)
    (h1 : S64x256.Slices ![n, 0] S1x256) (h2 : S64x64.Slices ![0, n] S64x1) : FVec F S1x64x256 .f32 :=
  shapeCast S1x64x256
    (addf (mulf w (broadcastTo S64x256 (shapeCast S1x256 (extractStridedSlice S1x256 ![n, 0] s h1) shapeCasts_S1x256_S1x256) broadcasts_S1x256_S64x256))
      (select q (broadcastTo S64x256 (shapeCast S1x256 (extractStridedSlice S1x256 ![n, 0] d h1) shapeCasts_S1x256_S1x256) broadcasts_S1x256_S64x256)
        (broadcastTo S64x256 (shapeCast S64x1 (extractStridedSlice S64x1 ![0, n] b h2) shapeCasts_S64x1_S64x1) broadcasts_S64x1_S64x256)))
    shapeCasts_S64x256_S1x64x256

/-- A matrix's row `n`, broadcast down the features, reads its point. -/
theorem bcRow (s : FVec F S64x256 .f32) (n : ℕ) (h1 : S64x256.Slices ![n, 0] S1x256) (c : Fin 64) (l : Fin 256) (a : Fin 64) (ha : a.val = n) :
    broadcastTo S64x256 (shapeCast S1x256 (extractStridedSlice S1x256 ![n, 0] s h1) shapeCasts_S1x256_S1x256) broadcasts_S1x256_S64x256 (mat c l)
      = s (mat a l) :=
  (broadcastTo_apply _ _ (mat c l) (rowI l) (by intro a; fin_cases a <;> rfl)).trans
    ((congrFun (shapeCast_self _ _) _).trans
      (extractStridedSlice_apply _ _ _ _ _ (by intro b; fin_cases b; exacts [ha, (Nat.zero_add _).symm])))

/-- A matrix's column `n`, broadcast along the points, reads its feature. -/
theorem bcCol (b : FVec F S64x64 .f32) (n : ℕ) (h2 : S64x64.Slices ![0, n] S64x1) (c : Fin 64) (l : Fin 256) (a : Fin 64) (ha : a.val = n) :
    broadcastTo S64x256 (shapeCast S64x1 (extractStridedSlice S64x1 ![0, n] b h2) shapeCasts_S64x1_S64x1) broadcasts_S64x1_S64x256 (mat c l)
      = b (sqr c a) :=
  (broadcastTo_apply _ _ (mat c l) (colI c) (by intro a; fin_cases a <;> rfl)).trans
    ((congrFun (shapeCast_self _ _) _).trans
      (extractStridedSlice_apply _ _ _ _ _ (by intro b; fin_cases b; exacts [(Nat.zero_add _).symm, ha])))

/-- The stored row is the block's value on that row. -/
theorem rowPay_cell (b : FVec F S64x64 .f32) (w : FVec F S64x256 .f32) (q : IVec S64x256 1) (s d : FVec F S64x256 .f32) (n : ℕ)
    (h1 : S64x256.Slices ![n, 0] S1x256) (h2 : S64x64.Slices ![0, n] S64x1)
    (hb : ∀ a, (![n, 0, 0] : Fin 3 → Nat) a + S1x64x256.size a ≤ S64x64x256.size a) (x : S1x64x256.Idx) :
    rowPay b w q s d n h1 h2 x = cell b w q s d ((Rect.unit (s := S64x64x256) ![n, 0, 0] S1x64x256.size hb).emb x) := by
  have e0 : (bRow ((Rect.unit (s := S64x64x256) ![n, 0, 0] S1x64x256.size hb).emb x)).val = n := by
    show (((Rect.unit (s := S64x64x256) ![n, 0, 0] S1x64x256.size hb).emb x) 0).val = n
    rw [Rect.emb_apply]; show n + 1 * (x 0).val = n; have : (x 0).val < 1 := (x 0).isLt; omega
  have hj : (fun a : Fin 2 => x a.succ : S64x256.Idx)
      = mat (bFeat ((Rect.unit (s := S64x64x256) ![n, 0, 0] S1x64x256.size hb).emb x)) (bPt ((Rect.unit (s := S64x64x256) ![n, 0, 0] S1x64x256.size hb).emb x)) := by
    funext a; fin_cases a
    · refine Fin.ext ?_
      show (x 1).val = (((Rect.unit (s := S64x64x256) ![n, 0, 0] S1x64x256.size hb).emb x) 1).val
      rw [Rect.emb_apply]; show _ = 0 + 1 * (x 1).val; omega
    · refine Fin.ext ?_
      show (x 2).val = (((Rect.unit (s := S64x64x256) ![n, 0, 0] S1x64x256.size hb).emb x) 2).val
      rw [Rect.emb_apply]; show _ = 0 + 1 * (x 2).val; omega
  refine (shapeCast_addUnit_apply ![64, 256] _ _ x).trans ?_
  rw [hj]
  have r1 := bcRow s n h1 (bFeat ((Rect.unit (s := S64x64x256) ![n, 0, 0] S1x64x256.size hb).emb x)) (bPt ((Rect.unit (s := S64x64x256) ![n, 0, 0] S1x64x256.size hb).emb x)) _ e0
  have r2 := bcRow d n h1 (bFeat ((Rect.unit (s := S64x64x256) ![n, 0, 0] S1x64x256.size hb).emb x)) (bPt ((Rect.unit (s := S64x64x256) ![n, 0, 0] S1x64x256.size hb).emb x)) _ e0
  have r3 := bcCol b n h2 (bFeat ((Rect.unit (s := S64x64x256) ![n, 0, 0] S1x64x256.size hb).emb x)) (bPt ((Rect.unit (s := S64x64x256) ![n, 0, 0] S1x64x256.size hb).emb x)) _ e0
  unfold cell
  rw [← r1, ← r2, ← r3]
  rfl

/-- A row of the block is a row of the points' block, and a column of the folded bias. -/
theorem slices_row {n : ℕ} (hb : ∀ a, (![n, 0, 0] : Fin 3 → Nat) a + S1x64x256.size a ≤ S64x64x256.size a) : S64x256.Slices ![n, 0] S1x256 :=
  ⟨rfl, fun a => by fin_cases a; exacts [hb 0, hb 2]⟩
theorem slices_col {n : ℕ} (hb : ∀ a, (![n, 0, 0] : Fin 3 → Nat) a + S1x64x256.size a ≤ S64x64x256.size a) : S64x64.Slices ![0, n] S64x1 :=
  ⟨rfl, fun a => by fin_cases a; exacts [hb 1, hb 0]⟩

/-- The same, with the row's own bounds. -/
theorem rowPay_ok {b : FVec F S64x64 .f32} {w : FVec F S64x256 .f32} {q : IVec S64x256 1} {s d : FVec F S64x256 .f32} {n : ℕ}
    (hb : ∀ a, (![n, 0, 0] : Fin 3 → Nat) a + S1x64x256.size a ≤ S64x64x256.size a) (x : S1x64x256.Idx) :
    rowPay b w q s d n (slices_row hb) (slices_col hb) x = cell b w q s d ((Rect.unit (s := S64x64x256) ![n, 0, 0] S1x64x256.size hb).emb x) :=
  rowPay_cell b w q s d n _ _ hb x

end Cert.Proof
-- ==== Proof.Body.lean ====
/-
  The TensorCore kernel's body, run once at a symbolic grid point: from the five operands' staging buffers and the
  result's, to the same operands and the result's holding the block value at every coordinate.
-/
module

public import proofs.«01_k».proof.Proof.Piece
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- One store through a rectangle, of the values of `G`: where the coordinates outside the rectangle read `G` already,
    every coordinate does. -/
theorem read_store {sp : Space} {s : Shape} {e : EltTy} (v : View sig .tc sp s e) (r : Rect s) (w : r.shape.Idx → Elt F e)
    (f : v.ty.Contents (Elt F)) (G : s.Idx → Elt F e) (y : s.Idx) (hf : y ∉ r.set → v.read (Elt F) f y = G y)
    (hw : ∀ x, w x = G (r.emb x)) : v.read (Elt F) (v.writes (Elt F) f [⟨r, w⟩]) y = G y := by
  by_cases hy : y ∈ r.set
  · obtain ⟨x, -, rfl⟩ := Finset.mem_map.mp (by rw [← Rect.map_emb_univ] at hy; exact hy)
    exact (View.read_writes_cons_emb (Val := Elt F) v f r w [] x).trans (hw x)
  · exact (View.read_writes_cons_miss (Val := Elt F) v f ⟨r, w⟩ [] y hy).trans (hf hy)

/-- A coordinate below row `n + 1` that row `n`'s rectangle does not hold is below row `n`. -/
theorem lt_of_not_mem {n : ℕ} {hb : ∀ a, (![n, 0, 0] : Fin 3 → Nat) a + S1x64x256.size a ≤ S64x64x256.size a} (y : S64x64x256.Idx)
    (hy : (y 0).val < n + 1) (h : y ∉ (Rect.unit (s := S64x64x256) ![n, 0, 0] S1x64x256.size hb).set) : (y 0).val < n := by
  by_contra hyn
  refine h ((Rect.unit (s := S64x64x256) ![n, 0, 0] S1x64x256.size hb).mem_set.mpr fun a => ?_)
  fin_cases a
  · exact ⟨0, Nat.one_pos, by show (y 0).val = n + 1 * 0; omega⟩
  · exact ⟨(y 1).val, (y 1).isLt, by show (y 1).val = 0 + 1 * (y 1).val; omega⟩
  · exact ⟨(y 2).val, (y 2).isLt, by show (y 2).val = 0 + 1 * (y 2).val; omega⟩

/-- The batch rows below `n` of the result's staging buffer are done: every coordinate of them reads the value `G`. -/
def Done (M7 : Memref sig .tc .vmem S64x64x256 .f32) (G : S64x64x256.Idx → F .f32) (n : ℕ) (f : M7.view.ty.Contents (Elt F)) : Prop :=
  ∀ y : S64x64x256.Idx, (y 0).val < n → M7.view.read (Elt F) f y = G y

/-- Storing row `n` makes one more row done. -/
theorem Done.succ {M7 : Memref sig .tc .vmem S64x64x256 .f32} {G : S64x64x256.Idx → F .f32} {n : ℕ} {f : M7.view.ty.Contents (Elt F)}
    (hf : Done M7 G n f) {hb : ∀ a, (![n, 0, 0] : Fin 3 → Nat) a + S1x64x256.size a ≤ S64x64x256.size a} {w : S1x64x256.Idx → F .f32}
    (hw : ∀ x, w x = G ((Rect.unit (s := S64x64x256) ![n, 0, 0] S1x64x256.size hb).emb x)) :
    Done M7 G (n + 1) (M7.view.writes (Elt F) f [⟨Rect.unit (s := S64x64x256) ![n, 0, 0] S1x64x256.size hb, w⟩]) :=
  by
  intro y hy
  have h1 : (y 0).val < n → M7.view.read (Elt F) f y = G y := hf y
  refine read_store (F := F) M7.view (Rect.unit (s := S64x64x256) ![n, 0, 0] S1x64x256.size hb) w f G y ?_ ?_
  · exact fun h => h1 (lt_of_not_mem y hy h)
  · exact hw

/-- The result's staging buffer held whole with the batch rows below `n` done. -/
def Rows (c : Dev nD) (M7 : Memref sig .tc .vmem S64x64x256 .f32) (G : S64x64x256.Idx → F .f32) (n : ℕ) : sProp 𝕄 :=
  iprop(∃ f : Bf (F := F) c M7, pt c M7 f ∗ ⌜Done M7 G n f⌝)

section Steps

variable {α β : Type} (c : Dev nD) (E : Set ℕ) {R : sProp (MT nD τ sig (HIx 1) (Elt F) ℕ UU ℕ)}

/-- A pure end of a program. -/
theorem ret_step {a : α} {Q : α → sProp 𝕄} (h : R ⊢ Q a) : R ⊢ wp frame (wpE (defs₀ (F := F)) 𝒱₀ (c : Thread nD τ) none) E (pure a) Q :=
  h.trans (by rw [wp_pure]; exact fupd_intro)

/-- A program and its continuation. -/
theorem bind_step {p : Prog (TpuEff nD τ sig (Elt F) Λ₀ .tc) α} {k : α → Prog (TpuEff nD τ sig (Elt F) Λ₀ .tc) β} {Q : β → sProp 𝕄}
    (h : R ⊢ wp frame (wpE (defs₀ (F := F)) 𝒱₀ (c : Thread nD τ) none) E p (fun a => wp frame (wpE (defs₀ (F := F)) 𝒱₀ (c : Thread nD τ) none) E (k a) Q)) :
    R ⊢ wp frame (wpE (defs₀ (F := F)) 𝒱₀ (c : Thread nD τ) none) E (p >>= k) Q :=
  h.trans (by rw [wp_bind])

variable {M7 : Memref sig .tc .vmem S64x64x256 .f32} {G : S64x64x256.Idx → F .f32} {n : ℕ}
  {hb : ∀ a, (![n, 0, 0] : Fin 3 → Nat) a + S1x64x256.size a ≤ S64x64x256.size a}

/-- A row's load, whose value is not used. -/
theorem load_step {hl : M7.view.LoadsAt (Rect.unit (s := S64x64x256) ![n, 0, 0] S1x64x256.size hb).toLoadRect} {Q : β → sProp 𝕄} {m : ℕ}
    {k : (S1x64x256.Idx → F .f32) → Prog (TpuEff nD τ sig (Elt F) Λ₀ .tc) β}
    (h : ∀ v, iprop(Rows c M7 G m ∗ R) ⊢ wp frame (wpE (defs₀ (F := F)) 𝒱₀ (c : Thread nD τ) none) E (k v) Q) :
    iprop(Rows c M7 G m ∗ R) ⊢ wp frame (wpE (defs₀ (F := F)) 𝒱₀ (c : Thread nD τ) none) E
      (Prog.lift (.load M7 (Rect.unit (s := S64x64x256) ![n, 0, 0] S1x64x256.size hb).toLoadRect hl) >>= k) Q := by
  unfold Rows
  iintro ⟨⟨%f, H, %hf⟩, HR⟩
  iapply (wp_load (defs := defs₀ (F := F)) 𝒱₀ (c : Thread nD τ) none E (m := M7) (f := f) (S := Finset.univ) (Finset.subset_univ _)) $$ H
  iintro H
  iapply (h _)
  isplitl [H]
  · unfold Rows
    iexists f
    isplitl
    · iexact H
    · ipureintro; exact hf
  · iexact HR

/-- A row's store: with the rows below `n` done and row `n`'s value stored, the rows below `n + 1` are. -/
theorem store_step {w : S1x64x256.Idx → F .f32}
    {hx : (M7.access (Rect.unit (s := S64x64x256) ![n, 0, 0] S1x64x256.size hb)).Stores Finset.univ}
    {hm : Finset.univ = Finset.univ ∨ ∀ a, (Rect.unit (s := S64x64x256) ![n, 0, 0] S1x64x256.size hb).stride a = 1} {Q : β → sProp 𝕄}
    {k : PUnit → Prog (TpuEff nD τ sig (Elt F) Λ₀ .tc) β}
    (hw : ∀ x, w x = G ((Rect.unit (s := S64x64x256) ![n, 0, 0] S1x64x256.size hb).emb x))
    (h : iprop(Rows c M7 G (n + 1) ∗ R) ⊢ wp frame (wpE (defs₀ (F := F)) 𝒱₀ (c : Thread nD τ) none) E (k ⟨⟩) Q) :
    iprop(Rows c M7 G n ∗ R) ⊢ wp frame (wpE (defs₀ (F := F)) 𝒱₀ (c : Thread nD τ) none) E
      (Prog.lift (.store M7 (Rect.unit (s := S64x64x256) ![n, 0, 0] S1x64x256.size hb) w Finset.univ hx hm) >>= k) Q := by
  unfold Rows at h ⊢
  iintro ⟨⟨%f, H, %hf⟩, HR⟩
  iapply (wp_store_writes₀ (defs := defs₀ (F := F)) 𝒱₀ (c : Thread nD τ) none E (m := M7)
    (r := Rect.unit (s := S64x64x256) ![n, 0, 0] S1x64x256.size hb) (w := w) (f := f) (S := Finset.univ) (Finset.subset_univ _)) $$ H
  iintro H
  iapply h
  isplitl [H]
  · iexists (M7.view.writes (Elt F) f [⟨Rect.unit (s := S64x64x256) ![n, 0, 0] S1x64x256.size hb, w⟩])
    isplitl
    · iexact H
    · ipureintro
      exact hf.succ hw
  · iexact HR

end Steps

/-- What a whole load of a memref's buffer reads. -/
abbrev ldMat (M : Memref sig .tc .vmem S64x256 .f32) (f : M.view.ty.Contents (Elt F)) : FVec F S64x256 .f32 :=
  M.view.readAt (Elt F) (Rect.unit (s := S64x256) ![0, 0] S64x256.size inb_S64x256_S64x256_0_0).toLoadRect f
abbrev ldVar (M : Memref sig .tc .vmem S64x16 .f32) (f : M.view.ty.Contents (Elt F)) : FVec F S64x16 .f32 :=
  M.view.readAt (Elt F) (Rect.unit (s := S64x16) ![0, 0] S64x16.size inb_S64x16_S64x16_0_0).toLoadRect f
abbrev ldRow (M : Memref sig .tc .vmem S8x64 .f32) (f : M.view.ty.Contents (Elt F)) : FVec F S8x64 .f32 :=
  M.view.readAt (Elt F) (Rect.unit (s := S8x64) ![0, 0] S8x64.size inb_S8x64_S8x64_0_0).toLoadRect f

/-- The block's value from the five operands' blocks: points, peaks, variables, weight row, bias row. -/
def blkVal (s d : FVec F S64x256 .f32) (v : FVec F S64x16 .f32) (w b : FVec F S8x64 .f32) : S64x64x256.Idx → F .f32 :=
  cell (k1_pay2 v b) (k1_pay3 w) k1_pay4 (k1_pay5 s) (k1_pay6 d)

set_option maxHeartbeats 1000000 in
/-- The body's first part: the operands are loaded. -/
theorem part1_run (c : Dev nD) (E : Set ℕ) (i : grid1.Coords)
    (M2 : Memref sig .tc .vmem S64x256 .f32) (h2 : M2.IsWhole) (M3 : Memref sig .tc .vmem S64x256 .f32) (h3 : M3.IsWhole)
    (M4 : Memref sig .tc .vmem S64x16 .f32) (h4 : M4.IsWhole) (M5 : Memref sig .tc .vmem S8x64 .f32) (h5 : M5.IsWhole)
    (M6 : Memref sig .tc .vmem S8x64 .f32) (h6 : M6.IsWhole) (M7 : Memref sig .tc .vmem S64x64x256 .f32) (h7 : M7.IsWhole)
    (f2 : Bf (F := F) c M2) (f3 : Bf (F := F) c M3) (f4 : Bf (F := F) c M4) (f5 : Bf (F := F) c M5) (f6 : Bf (F := F) c M6) (R : sProp 𝕄)
    (Q : _ → sProp 𝕄)
    (h : iprop(R ∗ pt c M2 f2 ∗ pt c M3 f3 ∗ pt c M4 f4 ∗ pt c M5 f5 ∗ pt c M6 f6)
      ⊢ Q ⟨k1_pay2 (ldVar M4 f4) (ldRow M6 f6), k1_pay3 (ldRow M5 f5), k1_pay4, k1_pay5 (ldMat M2 f2), k1_pay6 (ldMat M3 f3),
          k1_pay7 (ldMat M3 f3), k1_pay8 (ldVar M4 f4) (ldRow M6 f6), k1_pay9 (ldRow M5 f5) (ldMat M2 f2)⟩) :
    iprop(R ∗ pt c M2 f2 ∗ pt c M3 f3 ∗ pt c M4 f4 ∗ pt c M5 f5 ∗ pt c M6 f6)
      ⊢ wp frame (wpE (defs₀ (F := F)) 𝒱₀ (c : Thread nD τ) none) E (k1_part1 i M2 h2 M3 h3 M4 h4 M5 h5 M6 h6 M7 h7) Q := by
  rw [k1_part1_eq_skeleton]; unfold k1_part1_skel
  iintro ⟨HR, H2, H3, H4, H5, H6⟩
  iapply (wp_load (defs := defs₀ (F := F)) 𝒱₀ (c : Thread nD τ) none E (m := M4) (f := f4) (S := Finset.univ) (Finset.subset_univ _)) $$ H4
  iintro H4
  iapply (wp_load (defs := defs₀ (F := F)) 𝒱₀ (c : Thread nD τ) none E (m := M6) (f := f6) (S := Finset.univ) (Finset.subset_univ _)) $$ H6
  iintro H6
  iapply (wp_load (defs := defs₀ (F := F)) 𝒱₀ (c : Thread nD τ) none E (m := M5) (f := f5) (S := Finset.univ) (Finset.subset_univ _)) $$ H5
  iintro H5
  iapply (wp_load (defs := defs₀ (F := F)) 𝒱₀ (c : Thread nD τ) none E (m := M2) (f := f2) (S := Finset.univ) (Finset.subset_univ _)) $$ H2
  iintro H2
  iapply (wp_load (defs := defs₀ (F := F)) 𝒱₀ (c : Thread nD τ) none E (m := M3) (f := f3) (S := Finset.univ) (Finset.subset_univ _)) $$ H3
  iintro H3
  iapply (ret_step c E (BI.Entails.refl _))
  iapply h
  isplitl [HR]; · iexact HR
  isplitl [H2]; · iexact H2
  isplitl [H3]; · iexact H3
  isplitl [H4]; · iexact H4
  isplitl [H5]; · iexact H5
  iexact H6

set_option maxHeartbeats 4000000 in
/-- The body's run: from the six staging buffers held whole to the operands' as they were and the result's at the
    block's value. -/
theorem body_run (c : Dev nD) (E : Set ℕ) (i : grid1.Coords)
    (M2 : Memref sig .tc .vmem S64x256 .f32) (h2 : M2.IsWhole) (M3 : Memref sig .tc .vmem S64x256 .f32) (h3 : M3.IsWhole)
    (M4 : Memref sig .tc .vmem S64x16 .f32) (h4 : M4.IsWhole) (M5 : Memref sig .tc .vmem S8x64 .f32) (h5 : M5.IsWhole)
    (M6 : Memref sig .tc .vmem S8x64 .f32) (h6 : M6.IsWhole) (M7 : Memref sig .tc .vmem S64x64x256 .f32) (h7 : M7.IsWhole)
    (f2 : Bf (F := F) c M2) (f3 : Bf (F := F) c M3) (f4 : Bf (F := F) c M4) (f5 : Bf (F := F) c M5) (f6 : Bf (F := F) c M6) (f7 : Bf (F := F) c M7)
    (R : sProp 𝕄) (Q : PUnit → sProp 𝕄)
    (h : iprop(Rows c M7 (blkVal (ldMat M2 f2) (ldMat M3 f3) (ldVar M4 f4) (ldRow M5 f5) (ldRow M6 f6)) 64
        ∗ R ∗ pt c M2 f2 ∗ pt c M3 f3 ∗ pt c M4 f4 ∗ pt c M5 f5 ∗ pt c M6 f6) ⊢ Q ⟨⟩) :
    iprop((R ∗ pt c M7 f7) ∗ pt c M2 f2 ∗ pt c M3 f3 ∗ pt c M4 f4 ∗ pt c M5 f5 ∗ pt c M6 f6)
      ⊢ wp frame (wpE (defs₀ (F := F)) 𝒱₀ (c : Thread nD τ) none) E (cc1__tc_body i M2 h2 M3 h3 M4 h4 M5 h5 M6 h6 M7 h7) Q := by
  rw [cc1__tc_body_eq_skeleton]; unfold cc1__tc_body_skel
  refine bind_step c E (part1_run c E i M2 h2 M3 h3 M4 h4 M5 h5 M6 h6 M7 h7 f2 f3 f4 f5 f6 _ _ ?_)
  dsimp only
  have h0 : iprop((R ∗ pt c M7 f7) ∗ pt c M2 f2 ∗ pt c M3 f3 ∗ pt c M4 f4 ∗ pt c M5 f5 ∗ pt c M6 f6)
      ⊢ iprop(Rows c M7 (blkVal (ldMat M2 f2) (ldMat M3 f3) (ldVar M4 f4) (ldRow M5 f5) (ldRow M6 f6)) 0
        ∗ R ∗ pt c M2 f2 ∗ pt c M3 f3 ∗ pt c M4 f4 ∗ pt c M5 f5 ∗ pt c M6 f6) := by
    iintro ⟨⟨HR, H7⟩, H⟩
    isplitl [H7]
    · unfold Rows
      iexists f7
      isplitl
      · iexact H7
      · ipureintro; intro y hy; exact absurd hy (Nat.not_lt_zero _)
    · isplitl [HR]
      · iexact HR
      · iexact H
  refine h0.trans ?_
  unfold blkVal at h ⊢
  refine bind_step c E ?_
  rw [k1_part2_eq_skeleton]; unfold k1_part2_skel
  iterate 3 (refine load_step c E fun _ => ?_; refine store_step c E (fun x => rowPay_ok _ x) ?_)
  refine ret_step c E ?_; try dsimp only
  refine bind_step c E ?_
  rw [k1_part3_eq_skeleton]; unfold k1_part3_skel
  iterate 3 (refine load_step c E fun _ => ?_; refine store_step c E (fun x => rowPay_ok _ x) ?_)
  refine load_step c E fun _ => ?_
  refine ret_step c E ?_; try dsimp only
  refine bind_step c E ?_
  rw [k1_part4_eq_skeleton]; unfold k1_part4_skel
  refine store_step c E (fun x => rowPay_ok _ x) ?_
  iterate 3 (refine load_step c E fun _ => ?_; refine store_step c E (fun x => rowPay_ok _ x) ?_)
  refine ret_step c E ?_; try dsimp only
  refine bind_step c E ?_
  rw [k1_part5_eq_skeleton]; unfold k1_part5_skel
  iterate 3 (refine load_step c E fun _ => ?_; refine store_step c E (fun x => rowPay_ok _ x) ?_)
  refine ret_step c E ?_; try dsimp only
  refine bind_step c E ?_
  rw [k1_part6_eq_skeleton]; unfold k1_part6_skel
  iterate 3 (refine load_step c E fun _ => ?_; refine store_step c E (fun x => rowPay_ok _ x) ?_)
  refine ret_step c E ?_; try dsimp only
  refine bind_step c E ?_
  rw [k1_part7_eq_skeleton]; unfold k1_part7_skel
  iterate 3 (refine load_step c E fun _ => ?_; refine store_step c E (fun x => rowPay_ok _ x) ?_)
  refine ret_step c E ?_; try dsimp only
  refine bind_step c E ?_
  rw [k1_part8_eq_skeleton]; unfold k1_part8_skel
  iterate 3 (refine load_step c E fun _ => ?_; refine store_step c E (fun x => rowPay_ok _ x) ?_)
  refine ret_step c E ?_; try dsimp only
  refine bind_step c E ?_
  rw [k1_part9_eq_skeleton]; unfold k1_part9_skel
  iterate 3 (refine load_step c E fun _ => ?_; refine store_step c E (fun x => rowPay_ok _ x) ?_)
  refine ret_step c E ?_; try dsimp only
  refine bind_step c E ?_
  rw [k1_part10_eq_skeleton]; unfold k1_part10_skel
  iterate 3 (refine load_step c E fun _ => ?_; refine store_step c E (fun x => rowPay_ok _ x) ?_)
  refine load_step c E fun _ => ?_
  refine ret_step c E ?_; try dsimp only
  refine bind_step c E ?_
  rw [k1_part11_eq_skeleton]; unfold k1_part11_skel
  refine store_step c E (fun x => rowPay_ok _ x) ?_
  iterate 3 (refine load_step c E fun _ => ?_; refine store_step c E (fun x => rowPay_ok _ x) ?_)
  refine ret_step c E ?_; try dsimp only
  refine bind_step c E ?_
  rw [k1_part12_eq_skeleton]; unfold k1_part12_skel
  iterate 3 (refine load_step c E fun _ => ?_; refine store_step c E (fun x => rowPay_ok _ x) ?_)
  refine ret_step c E ?_; try dsimp only
  refine bind_step c E ?_
  rw [k1_part13_eq_skeleton]; unfold k1_part13_skel
  iterate 3 (refine load_step c E fun _ => ?_; refine store_step c E (fun x => rowPay_ok _ x) ?_)
  refine ret_step c E ?_; try dsimp only
  refine bind_step c E ?_
  rw [k1_part14_eq_skeleton]; unfold k1_part14_skel
  iterate 3 (refine load_step c E fun _ => ?_; refine store_step c E (fun x => rowPay_ok _ x) ?_)
  refine ret_step c E ?_; try dsimp only
  refine bind_step c E ?_
  rw [k1_part15_eq_skeleton]; unfold k1_part15_skel
  iterate 3 (refine load_step c E fun _ => ?_; refine store_step c E (fun x => rowPay_ok _ x) ?_)
  refine ret_step c E ?_; try dsimp only
  refine bind_step c E ?_
  rw [k1_part16_eq_skeleton]; unfold k1_part16_skel
  iterate 3 (refine load_step c E fun _ => ?_; refine store_step c E (fun x => rowPay_ok _ x) ?_)
  refine load_step c E fun _ => ?_
  refine ret_step c E ?_; try dsimp only
  refine bind_step c E ?_
  rw [k1_part17_eq_skeleton]; unfold k1_part17_skel
  refine store_step c E (fun x => rowPay_ok _ x) ?_
  iterate 3 (refine load_step c E fun _ => ?_; refine store_step c E (fun x => rowPay_ok _ x) ?_)
  refine ret_step c E ?_; try dsimp only
  refine bind_step c E ?_
  rw [k1_part18_eq_skeleton]; unfold k1_part18_skel
  iterate 3 (refine load_step c E fun _ => ?_; refine store_step c E (fun x => rowPay_ok _ x) ?_)
  refine ret_step c E ?_; try dsimp only
  refine bind_step c E ?_
  rw [k1_part19_eq_skeleton]; unfold k1_part19_skel
  iterate 3 (refine load_step c E fun _ => ?_; refine store_step c E (fun x => rowPay_ok _ x) ?_)
  refine ret_step c E ?_; try dsimp only
  refine bind_step c E ?_
  rw [k1_part20_eq_skeleton]; unfold k1_part20_skel
  iterate 3 (refine load_step c E fun _ => ?_; refine store_step c E (fun x => rowPay_ok _ x) ?_)
  refine ret_step c E ?_; try dsimp only
  refine bind_step c E ?_
  rw [k1_part21_eq_skeleton]; unfold k1_part21_skel
  iterate 3 (refine load_step c E fun _ => ?_; refine store_step c E (fun x => rowPay_ok _ x) ?_)
  refine ret_step c E ?_; try dsimp only
  iterate 1 (refine load_step c E fun _ => ?_; refine store_step c E (fun x => rowPay_ok _ x) ?_)
  refine ret_step c E ?_
  exact h

end Cert.Proof
-- ==== Proof.Pays.lean ====
/-
  The launch of the vector-subcore kernel: what its call takes and brings back, each task's obligation, and the arrays as
  the thirty-two tasks' rows.
-/
module

public import proofs.«01_k».proof.Proof.Body
public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "pV" => (Memref.whole Cert.KernelIdeal.main_v0_scv : Memref Cert.KernelIdeal.sig Kind.scVector Space.hbm Cert.KernelIdeal.S51200 EltTy.i32)
local notation "cVw" => (Memref.whole Cert.KernelIdeal.main_c_scv : Memref Cert.KernelIdeal.sig Kind.scVector Space.hbm Cert.KernelIdeal.S51200 EltTy.i32)
local notation "oV" => (Memref.whole Cert.KernelIdeal.main_v1_scv : Memref Cert.KernelIdeal.sig Kind.scVector Space.hbm Cert.KernelIdeal.S1048576 EltTy.f32)
local notation "aV" => (Memref.whole Cert.KernelIdeal.cc0_scratch0 : Memref Cert.KernelIdeal.sig Kind.scVector Space.vmem Cert.KernelIdeal.S32768 EltTy.f32)
local notation "sV" => (Memref.whole Cert.KernelIdeal.cc0_scratch1 : Memref Cert.KernelIdeal.sig Kind.scVector Space.vmem Cert.KernelIdeal.S1600 EltTy.i32)
local notation "rV" => (Memref.whole Cert.KernelIdeal.cc0_scratch2 : Memref Cert.KernelIdeal.sig Kind.scVector Space.vmem Cert.KernelIdeal.S1600 EltTy.i32)

/-! ## The payloads -/

/-- The number of the task on SparseCore `c`, subcore `i`. -/
def wN (c : Fin 2) (i : Fin 16) : Fin 32 := ⟨2 * i.val + c.val, by omega⟩

/-- The pairs (SparseCore, subcore) are the tasks. -/
def wEquiv : Fin 2 × Fin 16 ≃ Fin 32 where
  toFun p := wN p.1 p.2
  invFun w := (⟨w.val % 2, by omega⟩, ⟨w.val / 2, by omega⟩)
  left_inv p := by
    have h0 : p.1.val < 2 := p.1.isLt
    refine Prod.ext (Fin.ext ?_) (Fin.ext ?_)
    · show (2 * p.2.val + p.1.val) % 2 = p.1.val
      omega
    · show (2 * p.2.val + p.1.val) / 2 = p.2.val
      omega
  right_inv w := Fin.ext (by
    show 2 * (w.val / 2) + w.val % 2 = w.val
    omega)

/-- A task's three rows. -/
abbrev rows3 (d : Dev nD) (w : Fin 32) (pk : Buf (Elt F) (pLoc d)) (rc : Buf (Elt F) (cLoc d)) (fo : Buf (Elt F) (oLoc d)) : sProp 𝕄 :=
  iprop(pRow d w pk ∗ cRow d w rc ∗ oRow d w fo)

/-- The rows of SparseCore `c`'s sixteen tasks. -/
abbrev core3 (d : Dev nD) (c : Fin 2) (pk : Buf (Elt F) (pLoc d)) (rc : Buf (Elt F) (cLoc d)) (fo : Buf (Elt F) (oLoc d)) : sProp 𝕄 :=
  bigSep Finset.univ fun i : Fin 16 => rows3 d (wN c i) pk rc fo

variable (pk : (d : Dev nD) → Buf (Elt F) (pLoc d)) (rc : (d : Dev nD) → Buf (Elt F) (cLoc d)) (fo : (d : Dev nD) → Buf (Elt F) (oLoc d))

/-- The one call hands each SparseCore the rows of its sixteen tasks, each task its own three rows; they come back with the
    result's row at the scattered array. -/
def P : (K (F := F)).Pay (nD := nD) (Val := Elt F) (Name := ℕ) (U := UU) where
  st := fun q d c => match q with | 0 => core3 d (Fin.cast nCore_zero c) (pk d) (rc d) (fo d)
  dn := fun q d c => match q with | 0 => core3 d (Fin.cast nCore_zero c) (pk d) (rc d) (scat (F := F) (pk d) (rc d))
  go := fun q d c i => match q with | 0 => rows3 d (wN (Fin.cast nCore_zero c) (Fin.cast nSub_zero i)) (pk d) (rc d) (fo d)
  td := fun q d c i => match q with | 0 => rows3 d (wN (Fin.cast nCore_zero c) (Fin.cast nSub_zero i)) (pk d) (rc d) (scat (F := F) (pk d) (rc d))
  x := fun _ _ => iprop(emp)

instance P_storable : (P (F := F) pk rc fo).IsStorable where
  st q d c := match q with
    | 0 => (inferInstance : BI.Storable (upEmb : UEmb _ 𝕄) (core3 d (Fin.cast nCore_zero c) (pk d) (rc d) (fo d)))
  dn q d c := match q with
    | 0 => (inferInstance : BI.Storable (upEmb : UEmb _ 𝕄) (core3 d (Fin.cast nCore_zero c) (pk d) (rc d) (scat (F := F) (pk d) (rc d))))
  go q d c i := match q with
    | 0 => (inferInstance : BI.Storable (upEmb : UEmb _ 𝕄) (rows3 d (wN (Fin.cast nCore_zero c) (Fin.cast nSub_zero i)) (pk d) (rc d) (fo d)))
  td q d c i := match q with
    | 0 => (inferInstance : BI.Storable (upEmb : UEmb _ 𝕄) (rows3 d (wN (Fin.cast nCore_zero c) (Fin.cast nSub_zero i)) (pk d) (rc d) (scat (F := F) (pk d) (rc d))))

/-! ## A task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_scatter (coordsV c s)
          pV (Memref.isWhole_whole _) cVw (Memref.isWhole_whole _) oV (Memref.isWhole_whole _)
          aV (Memref.isWhole_whole _) sV (Memref.isWhole_whole _) rV (Memref.isWhole_whole _) cc0_scoped0 cc0_scoped1 cc0_scoped2) ⟨⟩ c s := rfl

/-- The waits a task may have left, as the launch states them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ d, PreOK (pk d) (rc d)) : (K (F := F)).TileObl (D (F := F)) 𝒱 (P (F := F) pk rc fo) v₀ 0 := by
  intro d c i O W hO _ _
  simp only [show (P (F := F) pk rc fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) d (coordsV ⟨_, hci.1⟩ ⟨_, hci.2⟩) hF (pk d) (rc d) (fo d) (hpre d) O W hO).trans (wp_mono frame _ _ fun _ => obl_post)

/-- A SparseCore's payload is its tasks', and comes back from theirs. -/
theorem vecSplit : (K (F := F)).VecSplit' (P (F := F) pk rc fo) 0 := by
  intro d c
  show core3 d (Fin.cast nCore_zero c) (pk d) (rc d) (fo d) ⊢ |={Set.univ}=> iprop(
      core3 d (Fin.cast nCore_zero c) (pk d) (rc d) (fo d)
      ∗ (core3 d (Fin.cast nCore_zero c) (pk d) (rc d) (scat (F := F) (pk d) (rc d))
          -∗ core3 d (Fin.cast nCore_zero c) (pk d) (rc d) (scat (F := F) (pk d) (rc d))))
  iintro H; imodintro
  isplitl [H]; · iexact H
  iintro H; iexact H

/-! ## The arrays as the tasks' rows -/

theorem pRowSet_eq (w : Fin 32) : pRowSet w = (irow w).set := by
  show ((View.whole (main_v0_scv : Ref sig .scVector)).slice (irow w)).set = _
  rw [View.set_slice]; exact Finset.map_refl
theorem oRowSet_eq (w : Fin 32) : oRowSet w = (orow w).set := by
  show ((View.whole (main_v1_scv : Ref sig .scVector)).slice (orow w)).set = _
  rw [View.set_slice]; exact Finset.map_refl
theorem pRows_disjoint : ∀ i ∈ (Finset.univ : Finset (Fin 32)), ∀ j ∈ (Finset.univ : Finset (Fin 32)), i ≠ j → Disjoint (pRowSet i) (pRowSet j) :=
  fun i _ j _ h => by rw [pRowSet_eq, pRowSet_eq]; exact Rect.part_disjoint idiv h
theorem oRows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem pRows_cover : (Finset.univ : Finset (Fin 32)).biUnion pRowSet = Finset.univ :=
  (Finset.biUnion_congr rfl fun i _ => pRowSet_eq i).trans (Rect.biUnion_part idiv)
theorem oRows_cover : (Finset.univ : Finset (Fin 32)).biUnion oRowSet = Finset.univ :=
  (Finset.biUnion_congr rfl fun i _ => oRowSet_eq i).trans (Rect.biUnion_part odiv)

theorem pPts_rows (d : Dev nD) (f : Buf (Elt F) (pLoc d)) :
    (pLoc d ↦{fullShare} f : sProp 𝕄) = bigSep Finset.univ fun w : Fin 32 => pRow d w f := by
  rw [← pointsTo_biUnion Finset.univ (ℓ := pLoc d) pRowSet pRows_disjoint, pRows_cover]; try rfl
theorem cPts_rows (d : Dev nD) (f : Buf (Elt F) (cLoc d)) :
    (cLoc d ↦{fullShare} f : sProp 𝕄) = bigSep Finset.univ fun w : Fin 32 => cRow d w f := by
  rw [← pointsTo_biUnion Finset.univ (ℓ := cLoc d) pRowSet pRows_disjoint, pRows_cover]; try rfl
theorem oPts_rows (d : Dev nD) (f : Buf (Elt F) (oLoc d)) :
    (oLoc d ↦{fullShare} f : sProp 𝕄) = bigSep Finset.univ fun w : Fin 32 => oRow d w f := by
  rw [← pointsTo_biUnion Finset.univ (ℓ := oLoc d) oRowSet oRows_disjoint, oRows_cover]; try rfl

/-- The three arrays held whole are the two SparseCores' payloads. -/
theorem whole_cores (d : Dev nD) (p : Buf (Elt F) (pLoc d)) (c : Buf (Elt F) (cLoc d)) (o : Buf (Elt F) (oLoc d)) :
    (iprop((pLoc d ↦{fullShare} p) ∗ (cLoc d ↦{fullShare} c) ∗ oLoc d ↦{fullShare} o) : sProp 𝕄)
      = bigSep Finset.univ fun x : Fin 2 => core3 d x p c o := by
  rw [pPts_rows, cPts_rows, oPts_rows, ← bigSep_sep', ← bigSep_sep', bigSep_univ_equiv wEquiv, bigSep_univ_prod]
  rfl

theorem st_eq (d : Dev nD) : (bigSep Finset.univ fun c : Fin ((K (F := F)).nCore 0) => (P (F := F) pk rc fo).st 0 d c)
    = iprop((pLoc d ↦{fullShare} pk d) ∗ (cLoc d ↦{fullShare} rc d) ∗ oLoc d ↦{fullShare} fo d) :=
  (bigSep_congr fun _ _ => rfl).trans (whole_cores d (pk d) (rc d) (fo d)).symm
theorem dn_eq (d : Dev nD) : (bigSep Finset.univ fun c : Fin ((K (F := F)).nCore 0) => (P (F := F) pk rc fo).dn 0 d c)
    = iprop((pLoc d ↦{fullShare} pk d) ∗ (cLoc d ↦{fullShare} rc d) ∗ oLoc d ↦{fullShare} scat (F := F) (pk d) (rc d)) :=
  (bigSep_congr fun _ _ => rfl).trans (whole_cores d (pk d) (rc d) (scat (F := F) (pk d) (rc d))).symm

end Cert.Proof

end
-- ==== Proof.Region.lean ====
/-
  The TensorCore kernel's pipeline: its proof data at an entry valuation, the body's obligation, and the region as one step
  from the buffers at that valuation to the buffers with the result's array written.
-/
module

public import proofs.«01_k».proof.Proof.Pays
public import Idealize.ShloMosaic.Lib.Pipeline.FrameBody
public import Idealize.ShloMosaic.Lib.Pipeline.RegionsLoop

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## Staging buffers held whole -/

/-- Owning a whole memref at read contents is holding its buffer at contents that read so. -/
theorem owns_pt (c : Dev nD) {S : Shape} {e : EltTy} (M : Memref sig .tc .vmem S e) (hM : M.IsWhole) (X : S.Idx → Elt F e) :
    (owns (c : Thread nD τ) M fullShare X : sProp 𝕄) = iprop(∃ f : Bf (F := F) c M, ⌜M.view.read (Elt F) f = X⌝ ∗ pt c M f) := by
  unfold owns; rw [hM.set_eq_univ]

theorem ldMat_eq (M : Memref sig .tc .vmem S64x256 .f32) (f : M.view.ty.Contents (Elt F)) : ldMat M f = M.view.read (Elt F) f := by
  funext x
  show M.view.read (Elt F) f _ = _
  congr 1
  funext a; refine Fin.ext ?_
  fin_cases a
  · show 0 + 1 * (x 0).val = (x 0).val; omega
  · show 0 + 1 * (x 1).val = (x 1).val; omega
theorem ldVar_eq (M : Memref sig .tc .vmem S64x16 .f32) (f : M.view.ty.Contents (Elt F)) : ldVar M f = M.view.read (Elt F) f := by
  funext x
  show M.view.read (Elt F) f _ = _
  congr 1
  funext a; refine Fin.ext ?_
  fin_cases a
  · show 0 + 1 * (x 0).val = (x 0).val; omega
  · show 0 + 1 * (x 1).val = (x 1).val; omega
theorem ldRow_eq (M : Memref sig .tc .vmem S8x64 .f32) (f : M.view.ty.Contents (Elt F)) : ldRow M f = M.view.read (Elt F) f := by
  funext x
  show M.view.read (Elt F) f _ = _
  congr 1
  funext a; refine Fin.ext ?_
  fin_cases a
  · show 0 + 1 * (x 0).val = (x 0).val; omega
  · show 0 + 1 * (x 1).val = (x 1).val; omega

/-- The result's rows all done are the buffer owned at the block's value. -/
theorem rows_owns (c : Dev nD) (M7 : Memref sig .tc .vmem S64x64x256 .f32) (h7 : M7.IsWhole) (G : S64x64x256.Idx → F .f32) :
    (Rows c M7 G 64 : sProp 𝕄) ⊢ owns (c : Thread nD τ) M7 fullShare G := by
  rw [owns_pt c M7 h7]; unfold Rows
  iintro ⟨%f, H, %hf⟩
  iexists f
  isplitr
  · ipureintro; exact funext fun y => hf y (y 0).isLt
  · iexact H

/-! ## The proof data at an entry valuation -/

variable (VA : (c : Dev nD) → (b : Ref sig .tc) → Buf (Elt F) ((c : Thread nD τ).loc b))

/-- A window's block of its array at the entry valuation. -/
abbrev stg (c : Dev nD) (w : Fin 6) (t : Fin cfg1.N) : ((cfg1.win w).xblock (cfg1.grid.coords t)).Idx → Elt F (cfg1.win w).elt :=
  ((cfg1.win w).blk t).view.read (Elt F) (VA c (Pipeline.arrRef spec1 w))

/-- The result's block at a point. -/
def outBlk (c : Dev nD) (t : Fin cfg1.N) : S64x64x256.Idx → F .f32 :=
  blkVal (stg VA c 0 t) (stg VA c 1 t) (stg VA c 2 t) (stg VA c 3 t) (stg VA c 4 t)

/-- The scoped buffers no window stages. -/
abbrev Φc (c : Dev nD) : sProp 𝕄 := Pipeline.scopedRest (Ix := HIx 1) (Name := ℕ) (U := UU) (Lvl := ℕ) (Val := Elt F) spec1 c

variable (b : ℕ)

/-- The five operands' buffers keep their blocks, the result's is left at the block's value; nothing is owed, and every
    recorded wait is at or below level `b`. -/
def dat (c : Dev nD) : Dat τ (Elt F) (HIx 1) ℕ UU ℕ cfg1 c where
  A w := VA c (Pipeline.arrRef spec1 w)
  after w t := match w with
    | ⟨0, _⟩ => stg VA c 0 t
    | ⟨1, _⟩ => stg VA c 1 t
    | ⟨2, _⟩ => stg VA c 2 t
    | ⟨3, _⟩ => stg VA c 3 t
    | ⟨4, _⟩ => stg VA c 4 t
    | ⟨5, _⟩ => outBlk VA c t
  Φ _ := Φc c
  q _ := fullShare
  owed _ := 0
  recorded _ := {p | (K (F := F)).lev ((c : Thread nD τ), p.1) p.2 ≤ b}

theorem before0 (c : Dev nD) (t : Fin cfg1.N) (d) : (dat VA b c).before 0 t d = stg VA c 0 t :=
  (dat VA b c).before_in_eq_fetched 0 rfl (fun _ => rfl) (fun _ _ _ => rfl) (fun _ => rfl) t d
theorem before1 (c : Dev nD) (t : Fin cfg1.N) (d) : (dat VA b c).before 1 t d = stg VA c 1 t :=
  (dat VA b c).before_in_eq_fetched 1 rfl (fun _ => rfl) (fun _ _ _ => rfl) (fun _ => rfl) t d
theorem before2 (c : Dev nD) (t : Fin cfg1.N) (d) : (dat VA b c).before 2 t d = stg VA c 2 t :=
  (dat VA b c).before_in_eq_fetched 2 rfl (fun _ => rfl) (fun _ _ _ => rfl) (fun _ => rfl) t d
theorem before3 (c : Dev nD) (t : Fin cfg1.N) (d) : (dat VA b c).before 3 t d = stg VA c 3 t :=
  (dat VA b c).before_in_eq_fetched 3 rfl (fun _ => rfl) (fun _ _ _ => rfl) (fun _ => rfl) t d
theorem before4 (c : Dev nD) (t : Fin cfg1.N) (d) : (dat VA b c).before 4 t d = stg VA c 4 t :=
  (dat VA b c).before_in_eq_fetched 4 rfl (fun _ => rfl) (fun _ _ _ => rfl) (fun _ => rfl) t d

/-- The body at a point: from the five operands' blocks and the result's buffer at anything. -/
theorem point_run (c : Dev nD) (t : Fin cfg1.N) (R : sProp 𝕄) (X7 : S64x64x256.Idx → F .f32) :
    iprop(R ∗ owns (c : Thread nD τ) (st1_0 t) fullShare (stg VA c 0 t) ∗ owns (c : Thread nD τ) (st1_1 t) fullShare (stg VA c 1 t)
        ∗ owns (c : Thread nD τ) (st1_2 t) fullShare (stg VA c 2 t) ∗ owns (c : Thread nD τ) (st1_3 t) fullShare (stg VA c 3 t)
        ∗ owns (c : Thread nD τ) (st1_4 t) fullShare (stg VA c 4 t) ∗ owns (c : Thread nD τ) (st1_5 t) fullShare X7)
      ⊢ wp frame (wpE (defs₀ (F := F)) 𝒱₀ (c : Thread nD τ) none) Set.univ (bodyAt1 (F := F) t) fun _ =>
        iprop(R ∗ owns (c : Thread nD τ) (st1_0 t) fullShare (stg VA c 0 t) ∗ owns (c : Thread nD τ) (st1_1 t) fullShare (stg VA c 1 t)
          ∗ owns (c : Thread nD τ) (st1_2 t) fullShare (stg VA c 2 t) ∗ owns (c : Thread nD τ) (st1_3 t) fullShare (stg VA c 3 t)
          ∗ owns (c : Thread nD τ) (st1_4 t) fullShare (stg VA c 4 t) ∗ owns (c : Thread nD τ) (st1_5 t) fullShare (outBlk VA c t)) := by
  have h0 := hstage1_0 ((cfg1.slots t 0).cast nbuf1_0)
  have h1 := hstage1_1 ((cfg1.slots t 1).cast nbuf1_1)
  have h2 := hstage1_2 ((cfg1.slots t 2).cast nbuf1_2)
  have h3 := hstage1_3 ((cfg1.slots t 3).cast nbuf1_3)
  have h4 := hstage1_4 ((cfg1.slots t 4).cast nbuf1_4)
  have h5 := hstage1_5 ((cfg1.slots t 5).cast nbuf1_5)
  have e0 := owns_pt (F := F) c (st1_0 t) h0 (stg VA c 0 t)
  have e1 := owns_pt (F := F) c (st1_1 t) h1 (stg VA c 1 t)
  have e2 := owns_pt (F := F) c (st1_2 t) h2 (stg VA c 2 t)
  have e3 := owns_pt (F := F) c (st1_3 t) h3 (stg VA c 3 t)
  have e4 := owns_pt (F := F) c (st1_4 t) h4 (stg VA c 4 t)
  have e5 := owns_pt (F := F) c (st1_5 t) h5 X7
  iintro ⟨HR, H0, H1, H2, H3, H4, H5⟩
  ihave H0 := (Entails.of_eq e0) $$ H0
  ihave H1 := (Entails.of_eq e1) $$ H1
  ihave H2 := (Entails.of_eq e2) $$ H2
  ihave H3 := (Entails.of_eq e3) $$ H3
  ihave H4 := (Entails.of_eq e4) $$ H4
  ihave H5 := (Entails.of_eq e5) $$ H5
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, -, H5⟩
  have hout : blkVal (ldMat (st1_0 t) f0) (ldMat (st1_1 t) f1) (ldVar (st1_2 t) f2) (ldRow (st1_3 t) f3) (ldRow (st1_4 t) f4) = outBlk VA c t := by
    rw [ldMat_eq, ldMat_eq, ldVar_eq, ldRow_eq, ldRow_eq, hf0, hf1, hf2, hf3, hf4]; rfl
  iapply (body_run (F := F) c Set.univ (grid1.coords t) (st1_0 t) h0 (st1_1 t) h1 (st1_2 t) h2 (st1_3 t) h3 (st1_4 t) h4 (st1_5 t) h5
    f0 f1 f2 f3 f4 f5 R _ ?_)
  rotate_left
  · isplitl [HR H5]
    · isplitl [HR] <;> iassumption
    isplitl [H0]; · iexact H0
    isplitl [H1]; · iexact H1
    isplitl [H2]; · iexact H2
    isplitl [H3]; · iexact H3
    iexact H4
  · rw [hout, e0, e1, e2, e3, e4]
    iintro ⟨H5, HR, H0, H1, H2, H3, H4⟩
    isplitl [HR]; · iexact HR
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    isplitl [H4]; · iexists f4; isplitr; (· ipureintro; exact hf4); iexact H4
    iapply (rows_owns c (st1_5 t) h5 (outBlk VA c t)); iexact H5

/-- The library's body obligation. -/
theorem body_obligation (c : Dev nD) : BodyObligation (dat VA b c) (defs₀ (F := F)) 𝒱₀ (none : HIx 1) Set.univ := fun t => by
  rw [bigSep_W1, bigSep_W1]
  show iprop(Φc c ∗ (dat VA b c).owesAt none t.castSucc
      ∗ (∃ d, owns (c : Thread nD τ) (st1_0 t) fullShare ((dat VA b c).before 0 t d))
      ∗ (∃ d, owns (c : Thread nD τ) (st1_1 t) fullShare ((dat VA b c).before 1 t d))
      ∗ (∃ d, owns (c : Thread nD τ) (st1_2 t) fullShare ((dat VA b c).before 2 t d))
      ∗ (∃ d, owns (c : Thread nD τ) (st1_3 t) fullShare ((dat VA b c).before 3 t d))
      ∗ (∃ d, owns (c : Thread nD τ) (st1_4 t) fullShare ((dat VA b c).before 4 t d))
      ∗ (∃ d, owns (c : Thread nD τ) (st1_5 t) fullShare ((dat VA b c).before 5 t d)))
    ⊢ wp frame (wpE (defs₀ (F := F)) 𝒱₀ (c : Thread nD τ) none) Set.univ (bodyAt1 (F := F) t) fun _ =>
      iprop(Φc c ∗ (dat VA b c).owesAt none t.castSucc
        ∗ owns (c : Thread nD τ) (st1_0 t) fullShare (stg VA c 0 t) ∗ owns (c : Thread nD τ) (st1_1 t) fullShare (stg VA c 1 t)
        ∗ owns (c : Thread nD τ) (st1_2 t) fullShare (stg VA c 2 t) ∗ owns (c : Thread nD τ) (st1_3 t) fullShare (stg VA c 3 t)
        ∗ owns (c : Thread nD τ) (st1_4 t) fullShare (stg VA c 4 t) ∗ owns (c : Thread nD τ) (st1_5 t) fullShare (outBlk VA c t))
  simp only [before0, before1, before2, before3, before4]
  iintro ⟨HΦ, Howes, ⟨%d0, H0⟩, ⟨%d1, H1⟩, ⟨%d2, H2⟩, ⟨%d3, H3⟩, ⟨%d4, H4⟩, ⟨%d5, H5⟩⟩
  iapply (wp_mono frame _ _ (fun _ => sep_assoc.1))
  iapply (point_run VA c t iprop(Φc c ∗ (dat VA b c).owesAt none t.castSucc) ((dat VA b c).before 5 t d5))
  isplitl [HΦ Howes]; · isplitl [HΦ] <;> iassumption
  isplitl [H0]; · iexact H0
  isplitl [H1]; · iexact H1
  isplitl [H2]; · iexact H2
  isplitl [H3]; · iexact H3
  isplitl [H4]; · iexact H4
  iexact H5

/-! ## The region -/

variable (adm : (p : Fin 1) → (pcfgs (F := F) p).Adm)

/-- The one pipeline's proof data, as the library's family. -/
def pdats : (p : Fin 1) → (c : Dev nD) → Dat τ (Elt F) (HIx 1) ℕ UU ℕ (Pipeline.pin (pcfgs (F := F)) adm p) c
  | ⟨0, _⟩ => fun c => dat VA b c

/-- The result's array after the region. -/
def final (c : Dev nD) : Buf (Elt F) ((c : Thread nD τ).loc main_v13) := (dat VA b c).arrAt 5 cfg1.N

variable (Vp : (c : Dev nD) → (b : Ref sig .tc) → Buf (Elt F) ((c : Thread nD τ).loc b))

/-- Nothing owed, every recorded wait at or below level `b`. -/
abbrev owesB (c : Dev nD) : sProp 𝕄 :=
  iprop(∃ W, ⌜(K (F := F)).WBelow (c : Thread nD τ) W b⌝ ∗ owes (c : Thread nD τ) (0 : CellTallies nD τ sig (HIx 1)) W)

set_option backward.isDefEq.respectTransparency.types false in
/-- The region, from every unscoped buffer at `VA` to every unscoped buffer at `Vp`: `VA` with the result's array written. -/
def reg (hVp_out : ∀ c, Vp c main_v13 = final VA b c)
    (hVp_ne : ∀ c (r : Ref sig .tc), r ≠ main_v13 → Vp c r = VA c r) :
    Pipeline.RegionSeg (pcfgs (F := F)) adm (pdats VA b adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation VA b c).loose
  hwaits := Pipeline.hwaits_of_owed_zero _ _ _ _ (K (F := F)).L (K (F := F)).lev 0 fun _ _ => rfl
  pre c := iprop(unscopedBufs c (VA c) ∗ owesB b c)
  post c := iprop(unscopedBufs c (Vp c) ∗ owesB b c)
  X _ := BI.emp
  Y _ := BI.emp
  Z c := Pipeline.unscopedRest (Ix := HIx 1) (Name := ℕ) (U := UU) (Lvl := ℕ) spec1 c (VA c)
  hentry c := by
    rw [Pipeline.ownSems0_none]
    have hsplit := Pipeline.arrays_of_unscopedBufs (p := 0) (pcfgs (F := F)) adm (pdats VA b adm) launch1.win launch1.arr_whole c
      ((pdats VA b adm 0 c).share_full fun _ => rfl) (VA c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats VA b adm 0 c).Φ 0 = Φc c from rfl]
    iintro ⟨-, -, Hr⟩; iexact Hr
  hout c := by
    rw [Pipeline.ownSems0_none, show (pdats VA b adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats VA b adm) ((pdats VA b adm 0 c).share_full fun _ => rfl) (VA c) (Vp c) ((pdats VA b adm 0 c).arrAt · cfg1.N)
      (fun w => by
        fin_cases w
        · exact ((pdats VA b adm 0 c).arrAt_in 0 rfl _).trans (hVp_ne c main_v3 (by decide)).symm
        · exact ((pdats VA b adm 0 c).arrAt_in 1 rfl _).trans (hVp_ne c main_v2 (by decide)).symm
        · exact ((pdats VA b adm 0 c).arrAt_in 2 rfl _).trans (hVp_ne c main_v5 (by decide)).symm
        · exact ((pdats VA b adm 0 c).arrAt_in 3 rfl _).trans (hVp_ne c main_v9 (by decide)).symm
        · exact ((pdats VA b adm 0 c).arrAt_in 4 rfl _).trans (hVp_ne c main_v12 (by decide)).symm
        · exact (hVp_out c).symm)
      (fun r hr => hVp_ne c r fun h => hr (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof

end
-- ==== Proof.Main.lean ====
/-
  @main on the TensorCore and the run of the whole program: the host operations before the SparseCore call, the call, the
  operations between it and the TensorCore kernel's region, the region, the transposition; and what every unscoped buffer
  holds at the end.
-/
module

public import proofs.«01_k».proof.Proof.Region

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.ShloMosaic.StableHlo (held after seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## @main's operations -/

/-- Before the SparseCore call. -/
def opsA : List (HloOp τ sig (Elt F)) :=
  [ StableHlo.nullary main_c (fun i => lit0 (S51200.rowMajor i)),
    StableHlo.reshape main_arg1 main_v0 (rfl : (.i32 : EltTy) = .i32) shapeCasts_S1024x50x1_S51200 ]

/-- Between the call and the region. -/
def opsB : List (HloOp τ sig (Elt F)) :=
  [ StableHlo.reshape main_v1 main_v2 (rfl : (.f32 : EltTy) = .f32) shapeCasts_S1048576_S1024x1024,
    StableHlo.reshape main_arg0 main_v3 (rfl : (.f32 : EltTy) = .f32) shapeCasts_S1024x1024x1_S1024x1024,
    StableHlo.reshape main_arg2 main_v4 (rfl : (.f32 : EltTy) = .f32) shapeCasts_S1024x1x1_S1024x1,
    StableHlo.unary main_v4 main_v5 (broadcastInDim S1024x16 ![0, 1] bcast_S1024x1_S1024x16_0_1 : (⟨S1024x1, .f32⟩ : BufTy).Contents (Elt F) → (⟨S1024x16, .f32⟩ : BufTy).Contents (Elt F)),
    StableHlo.reshape main_arg3 main_v6 (rfl : (.f32 : EltTy) = .f32) shapeCasts_S1x31_S31,
    StableHlo.nullary main_cst (constant S_ .f32 0x00000000#32),
    StableHlo.unary main_cst main_v7 (broadcastInDim S33 ![] bcast_S_S33 : (⟨S_, .f32⟩ : BufTy).Contents (Elt F) → (⟨S33, .f32⟩ : BufTy).Contents (Elt F)),
    StableHlo.binary main_v6 main_v7 main_v8 ((fun a b => concatenate S64 0 [⟨S31, a⟩, ⟨S33, b⟩] concatenates_S31_S33_S64_d0) : (⟨S31, .f32⟩ : BufTy).Contents (Elt F) → (⟨S33, .f32⟩ : BufTy).Contents (Elt F) → (⟨S64, .f32⟩ : BufTy).Contents (Elt F)),
    StableHlo.unary main_v8 main_v9 (broadcastInDim S8x64 ![1] bcast_S64_S8x64_1 : (⟨S64, .f32⟩ : BufTy).Contents (Elt F) → (⟨S8x64, .f32⟩ : BufTy).Contents (Elt F)),
    StableHlo.nullary main_cst_0 (constant S_ .f32 0x00000000#32),
    StableHlo.unary main_cst_0 main_v10 (broadcastInDim S33 ![] bcast_S_S33 : (⟨S_, .f32⟩ : BufTy).Contents (Elt F) → (⟨S33, .f32⟩ : BufTy).Contents (Elt F)),
    StableHlo.binary main_arg4 main_v10 main_v11 ((fun a b => concatenate S64 0 [⟨S31, a⟩, ⟨S33, b⟩] concatenates_S31_S33_S64_d0) : (⟨S31, .f32⟩ : BufTy).Contents (Elt F) → (⟨S33, .f32⟩ : BufTy).Contents (Elt F) → (⟨S64, .f32⟩ : BufTy).Contents (Elt F)),
    StableHlo.unary main_v11 main_v12 (broadcastInDim S8x64 ![1] bcast_S64_S8x64_1 : (⟨S64, .f32⟩ : BufTy).Contents (Elt F) → (⟨S8x64, .f32⟩ : BufTy).Contents (Elt F)) ]

/-- After the region. -/
def opT : HloOp τ sig (Elt F) :=
  StableHlo.unary main_v13 main_v14 ((transpose S1024x1024x64 [0, 2, 1] · transposes_S1024x64x1024_S1024x1024x64_0_2_1) : (⟨S1024x64x1024, .f32⟩ : BufTy).Contents (Elt F) → (⟨S1024x1024x64, .f32⟩ : BufTy).Contents (Elt F))

theorem main_eq (d : Dev nD) : main (F := F) d
    = seq opsA >>= fun _ => sc.run d 0 >>= fun _ => seq opsB >>= fun _ =>
        (Prog.lift (.customCall (SparseCore.inner (Pipeline.entry 0)) ())) >>= fun _ => seq [opT] >>= fun _ => pure ⟨⟩ := by
  simp only [main, opsA, opsB, opT, seq, bind_assoc, pure_bind]

/-! ## The unscoped buffers -/

/-- Every unscoped TensorCore buffer. -/
def ucRefs : Finset (DevRef τ sig) := (StableHlo.tcRefs τ sig).filter fun b => ¬ b.isScoped

theorem mem_ucRefs {r : Ref sig .tc} (h : r.isScoped = false) : (Proc.devRef (τ := τ) .tc r) ∈ ucRefs :=
  Finset.mem_filter.mpr ⟨StableHlo.devRef_mem_tcRefs r, fun h' => Bool.false_ne_true (h.symm.trans h')⟩

theorem unscoped_held (c : Dev nD) (W : Valuation τ sig (Elt F)) :
    (unscopedBufs c (fun b => W b) : sProp 𝕄) = held (c : Thread nD τ) ucRefs W := by
  unfold unscopedBufs held ucRefs StableHlo.tcRefs
  rw [Finset.filter_map, bigSep_map]
  rfl

theorem bufs_uc (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem opsA_uc : ∀ op ∈ (opsA : List (HloOp τ sig (Elt F))), op.bufs ⊆ ucRefs := by
  refine fun op hop => bufs_uc op ?_
  refine (List.forall_iff_forall_mem.mp (show (opsA : List (HloOp τ sig (Elt F))).Forall (fun op => op.bufs ⊆ StableHlo.tcRefs τ sig) from ?_)) op hop
  simp only [opsA, List.Forall, StableHlo.nullary_bufs_sub, StableHlo.reshape_bufs_sub, and_self]
theorem opsB_uc : ∀ op ∈ (opsB : List (HloOp τ sig (Elt F))), op.bufs ⊆ ucRefs := by
  refine fun op hop => bufs_uc op ?_
  refine (List.forall_iff_forall_mem.mp (show (opsB : List (HloOp τ sig (Elt F))).Forall (fun op => op.bufs ⊆ StableHlo.tcRefs τ sig) from ?_)) op hop
  simp only [opsB, List.Forall, StableHlo.nullary_bufs_sub, StableHlo.unary_bufs_sub, StableHlo.binary_bufs_sub, StableHlo.reshape_bufs_sub, and_self]
theorem opT_uc : ∀ op ∈ [(opT : HloOp τ sig (Elt F))], op.bufs ⊆ ucRefs := fun op hop =>
  bufs_uc op (List.mem_singleton.mp hop ▸ StableHlo.unary_bufs_sub ..)
theorem opsA_fresh : ∀ op ∈ (opsA : List (HloOp τ sig (Elt F))), op.fresh = ∅ :=
  List.forall_iff_forall_mem.mp (StableHlo.forall_fresh_of_map rfl)
theorem opsB_fresh : ∀ op ∈ (opsB : List (HloOp τ sig (Elt F))), op.fresh = ∅ :=
  List.forall_iff_forall_mem.mp (StableHlo.forall_fresh_of_map rfl)
theorem opT_fresh : ∀ op ∈ [(opT : HloOp τ sig (Elt F))], op.fresh = ∅ :=
  List.forall_iff_forall_mem.mp (StableHlo.forall_fresh_of_map rfl)

/-! ## The contents along @main -/

abbrev bp : DevRef τ sig := Proc.devRef .tc main_v0
abbrev bc : DevRef τ sig := Proc.devRef .tc main_c
abbrev bo : DevRef τ sig := Proc.devRef .tc main_v1
abbrev br : DevRef τ sig := Proc.devRef .tc main_v13

variable (m : (ℓ : Loc nD τ sig) → Buf (Elt F) ℓ)

def V0 (d : Dev nD) : Valuation τ sig (Elt F) := fun b => m (d, b)
/-- At the SparseCore call. -/
def V1 (d : Dev nD) : Valuation τ sig (Elt F) := after opsA (V0 m d)
/-- The peaks, the row offsets and the result's buffer at the call. -/
def pk (d : Dev nD) : Buf (Elt F) (pLoc d) := V1 m d bp
def rc (d : Dev nD) : Buf (Elt F) (cLoc d) := V1 m d bc
def fo (d : Dev nD) : Buf (Elt F) (oLoc d) := V1 m d bo
/-- After the call: the result's buffer at the scattered ones. -/
def V2 (d : Dev nD) : Valuation τ sig (Elt F) := Function.update (V1 m d) bo (scat (F := F) (pk m d) (rc m d))
/-- At the region. -/
def V3 (d : Dev nD) : Valuation τ sig (Elt F) := after opsB (V2 m d)
abbrev VA3 (d : Dev nD) (b : Ref sig .tc) : Buf (Elt F) ((d : Thread nD τ).loc b) := V3 m d (Proc.devRef .tc b)
/-- The level every recorded wait is at or below after the call. -/
abbrev lvE : ℕ := 8 * SparseCore.Cfg.Blocks.fst 1 1 1
/-- After the region. -/
def V4 (d : Dev nD) : Valuation τ sig (Elt F) := Function.update (V3 m d) br (final (VA3 m) lvE d)
abbrev VA4 (d : Dev nD) (b : Ref sig .tc) : Buf (Elt F) ((d : Thread nD τ).loc b) := V4 m d (Proc.devRef .tc b)
/-- At the end. -/
def V5 (d : Dev nD) : Valuation τ sig (Elt F) := after [opT] (V4 m d)

theorem VA4_out (d : Dev nD) : VA4 m d main_v13 = final (VA3 m) lvE d := Function.update_self _ _ _
theorem VA4_ne (d : Dev nD) (r : Ref sig .tc) (h : r ≠ main_v13) : VA4 m d r = VA3 m d r :=
  Function.update_of_ne (fun e => h (Proc.devRef_injective _ e)) _ _

abbrev S3 : Finset (DevRef τ sig) := {bp, bc, bo}

theorem S3_sub : S3 ⊆ ucRefs := by
  intro b hb
  simp only [S3, Finset.mem_insert, Finset.mem_singleton] at hb
  rcases hb with rfl | rfl | rfl <;> exact mem_ucRefs rfl

theorem held_S3 (d : Dev nD) (W : Valuation τ sig (Elt F)) :
    (held (d : Thread nD τ) S3 W : sProp 𝕄) = iprop((pLoc d ↦{fullShare} W bp) ∗ (cLoc d ↦{fullShare} W bc) ∗ oLoc d ↦{fullShare} W bo) := by
  unfold held S3
  rw [SparseCore.bigSep_insert' (by decide), SparseCore.bigSep_insert' (by decide), bigSep_singleton]

/-- The buffers at the call: the call's three and the rest; and after it. -/
theorem held_V1 (d : Dev nD) : (held (d : Thread nD τ) ucRefs (V1 m d) : sProp 𝕄)
    = iprop(((pLoc d ↦{fullShare} pk m d) ∗ (cLoc d ↦{fullShare} rc m d) ∗ oLoc d ↦{fullShare} fo m d) ∗ held (d : Thread nD τ) (ucRefs \ S3) (V1 m d)) := by
  rw [StableHlo.held_sub_split _ S3_sub, held_S3]; rfl
theorem held_V2 (d : Dev nD) : (held (d : Thread nD τ) ucRefs (V2 m d) : sProp 𝕄)
    = iprop(((pLoc d ↦{fullShare} pk m d) ∗ (cLoc d ↦{fullShare} rc m d) ∗ oLoc d ↦{fullShare} scat (F := F) (pk m d) (rc m d))
        ∗ held (d : Thread nD τ) (ucRefs \ S3) (V1 m d)) := by
  rw [StableHlo.held_sub_split _ S3_sub, held_S3,
    show V2 m d bp = pk m d from Function.update_of_ne (by decide) _ _,
    show V2 m d bc = rc m d from Function.update_of_ne (by decide) _ _,
    show V2 m d bo = scat (F := F) (pk m d) (rc m d) from Function.update_self _ _ _,
    StableHlo.held_congr (d : Thread nD τ) (S := ucRefs \ S3) (V := V2 m d) (V' := V1 m d) fun b hb => Function.update_of_ne (fun e => by
      subst e; exact (Finset.mem_sdiff.mp hb).2 (by simp [S3])) _ _]

/-! ## The ghost state at launch -/

/-- The one pipeline reads no table. -/
def adm : (p : Fin 1) → (pcfgs (F := F) p).Adm := fun p => (cfgs p).toPCfg_adm

abbrev pcf : Fin 1 → Pipeline.Cfg sig Λ₀ := Pipeline.pin (pcfgs (F := F)) adm
theorem pinj : Function.Injective (Pipeline.cellOf (nD := nD) (τ := τ) (pcf (F := F))) := cellOf_inj

def u₀ : UU := (initOf (K (F := F)).hsCells (K (F := F)).hsToks,
  (initOf (Pipeline.cells (pcf (F := F)) pinj) (Pipeline.launchToks (pcf (F := F)) pinj), 1))

/-- A device's share of the pipeline's ghost state. -/
def G (d : Dev nD) : sProp 𝕄 := iprop(Pipeline.cellsGhost (pcf (F := F)) (EP (F := F)) 0 d ∗ Pipeline.toksInit (pcf (F := F)) (EP (F := F)) 0 d)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) (pk m) (rc m) (fo m)).x q thr) := by
  unfold u₀
  iintro Hu
  ihave H := (ownU_pair (initOf (K (F := F)).hsCells (K (F := F)).hsToks)
    ((initOf (Pipeline.cells (pcf (F := F)) pinj) (Pipeline.launchToks (pcf (F := F)) pinj), 1) : UP × Counters)) $$ Hu
  icases H with ⟨HH, HP⟩
  imod (Pipeline.fund_ghost (pcf (F := F)) (EP (F := F)) pinj) $$ [HP] with ⟨Hc, Ht⟩
  · iexact HP
  imodintro
  isplitl [HH]; · iexact HH
  isplitl [Hc Ht]
  · unfold G
    rw [bigSep_sep']
    isplitl [Hc]
    · iapply (Entails.of_eq (bigSep_congr (Φ := fun d : Dev nD => bigSep Finset.univ fun p : Fin 1 => Pipeline.cellsGhost (pcf (F := F)) (EP (F := F)) p d) fun d _ => bigSep_univ_of_subsingleton (0 : Fin 1))) $$ Hc
    · iapply (Entails.of_eq (bigSep_congr (Φ := fun d : Dev nD => bigSep Finset.univ fun p : Fin 1 => Pipeline.toksInit (pcf (F := F)) (EP (F := F)) p d) fun d _ => bigSep_univ_of_subsingleton (0 : Fin 1))) $$ Ht
  rw [show (bigSep Finset.univ fun thr : Thread nD τ => bigSep Finset.univ fun q : Fin 1 => (P (F := F) (pk m) (rc m) (fo m)).x q thr) = bigSep Finset.univ fun _ => iprop(emp) from
    bigSep_congr fun _ _ => bigSep_univ_of_subsingleton (0 : Fin 1), bigSep_nothing]
  iempintro

/-! ## @main on the TensorCore -/

variable (ρ : Dev nD → PrngReg)

/-- What @main leaves: every unscoped buffer at the end's contents. -/
abbrev FIN (d : Dev nD) : sProp 𝕄 := held (d : Thread nD τ) ucRefs (V5 m d)

/-- The region, under the whole program's body table. -/
theorem region_run (d : Dev nD) (Φ : PUnit → sProp 𝕄) [∀ e, Nonempty (Elt F e)] :
    iprop((iprop(boundary (d.tc : Thread nD τ) ∗ held (d : Thread nD τ) ucRefs (V4 m d) ∗ owesB lvE d) -∗ Φ ⟨⟩)
        ∗ boundary (d.tc : Thread nD τ) ∗ (held (d : Thread nD τ) ucRefs (V3 m d) ∗ owesB lvE d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  have hw := Pipeline.RegionSeg.wp (pcfgs (F := F)) adm (pdats (VA3 m) lvE adm) (none : HIx 1) pinj (EP (F := F)) defs₀ 𝒱₀ (K (F := F)).L (K (F := F)).lev
    (reg (VA3 m) lvE adm (VA4 m) (VA4_out m) (VA4_ne m)) d none (fun _ h => nomatch h) (fun _ => .ret ⟨⟩) Φ
  have hl := (K (F := F)).wp_liftProg (D (F := F)) 𝒱 (SparseCore.T d) Set.univ none
    (.op (.customCall (Pipeline.entry 0) ()) fun _ => .ret ⟨⟩) Φ
  have h0 : iprop((iprop(boundary (d.tc : Thread nD τ) ∗ held (d : Thread nD τ) ucRefs (V4 m d) ∗ owesB lvE d) -∗ Φ ⟨⟩)
        ∗ boundary (d.tc : Thread nD τ) ∗ (held (d : Thread nD τ) ucRefs (V3 m d) ∗ owesB lvE d) ∗ levAts (K (F := F)).L (K (F := F)).lev ∗ G (F := F) d)
      ⊢ wp frame (wpE (D (F := F)) 𝒱 (SparseCore.T d) none) Set.univ (.op (.customCall (Pipeline.entry 0) ()) fun _ => .ret ⟨⟩) Φ := by
    rw [← unscoped_held, ← unscoped_held]
    unfold G
    iintro ⟨HK, Hb, Hpre, Hlev, Hg, Ht⟩
    iapply hw
    rw [show (reg (VA3 m) lvE adm (VA4 m) (VA4_out m) (VA4_ne m)).pre d = iprop(unscopedBufs d (fun b => V3 m d b) ∗ owesB lvE d) from rfl,
      show (reg (VA3 m) lvE adm (VA4 m) (VA4_out m) (VA4_ne m)).post d = iprop(unscopedBufs d (fun b => V4 m d b) ∗ owesB lvE d) from rfl]
    isplitl [HK]
    · iintro H; rw [wp_ret]; imodintro; iapply HK; iexact H
    isplitl [Hb]; · iexact Hb
    isplitl [Hpre]; · iexact Hpre
    isplitl [Hlev]; · iexact Hlev
    isplitl [Hg] <;> iassumption
  exact h0.trans hl

/-- After the one call the TensorCore owes nothing. -/
theorem owes_end (d : Dev nD) :
    (iprop(∃ W, ⌜(K (F := F)).WBelow (SparseCore.T d) W (8 * SparseCore.Cfg.Blocks.fst 1 1 ((0 : Fin 1).val + 1))⌝
        ∗ owes (SparseCore.T d) ((K (F := F)).Otc d ((0 : Fin 1).val + 1)) W) : sProp 𝕄) = owesB lvE d := by
  rw [(K (F := F)).Otc_end d (show 1 ≤ (0 : Fin 1).val + 1 from le_refl 1)]
  rfl

theorem hmain [∀ e, Nonempty (Elt F e)] (κ : GSem nD τ sig → ℕ) (d : Dev nD) :
    iprop((K (F := F)).ctx EH (P (F := F) (pk m) (rc m) (fo m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d : Thread nD τ) ucRefs (V0 m d) from unscoped_held d (V0 m d), main_eq]
  iintro ⟨#Hctx, Hst, ⟨Hb, Hheld, Hts, -⟩, HG⟩
  iapply (StableHlo.wp_seq 𝒱 none Set.univ d ucRefs _ opsA opsA_uc opsA_fresh (V0 m d)) $$ [Hb Hheld]
  · isplitl [Hb] <;> iassumption
  iintro ⟨Hb, Hheld⟩
  ihave Hh := (show held (d : Thread nD τ) ucRefs (after opsA (V0 m d)) ⊢ _ from Entails.of_eq (held_V1 (F := F) m d)) $$ Hheld
  icases Hh with ⟨H3, Hrest⟩
  rw [wp_bind]
  iapply ((K (F := F)).wp_run (D (F := F)) 𝒱 (EH := EH) (P := P (F := F) (pk m) (rc m) (fo m)) κ d 0) $$ [Hst H3 Hb Hrest Hts HG]
  isplitr; · iexact Hctx
  isplitl [Hst]; · iexact Hst
  isplitl [H3]
  · rw [st_eq]; iexact H3
  iintro ⟨Hst, Hdn⟩
  ihave Hdn' := (Entails.of_eq (dn_eq (pk m) (rc m) (fo m) d)) $$ Hdn
  iapply (StableHlo.wp_seq 𝒱 none Set.univ d ucRefs _ opsB opsB_uc opsB_fresh (V2 m d)) $$ [Hb Hdn' Hrest]
  · isplitl [Hb]; · iexact Hb
    rw [held_V2]
    isplitl [Hdn'] <;> iassumption
  iintro ⟨Hb, Hheld⟩
  rw [wp_bind]
  unfold SparseCore.Cfg.tcSt
  icases Hst with ⟨HO, Hst⟩
  ihave HO := (Entails.of_eq (owes_end (F := F) d)) $$ HO
  iapply (region_run m d)
  ihave Hlev := (SparseCore.Cfg.ctx_levAts κ) $$ Hctx
  isplitl [Hst Hts]
  · iintro ⟨Hb, Hheld, HO⟩
    iapply (StableHlo.wp_seq 𝒱 none Set.univ d ucRefs _ [opT] opT_uc opT_fresh (V4 m d)) $$ [Hb Hheld]
    · isplitl [Hb] <;> iassumption
    iintro ⟨Hb, Hheld⟩
    rw [show (pure ⟨⟩ : Prog (TpuEff nD τ sig (Elt F) _ .tc) PUnit) = .ret ⟨⟩ from rfl, wp_ret]
    imodintro
    isplitl [HO Hst]
    · isplitl [HO]; · iapply (Entails.of_eq (owes_end (F := F) d).symm) $$ HO
      iexact Hst
    isplitl [Hheld]; · iexact Hheld
    isplitl [Hb] <;> iassumption
  isplitl [Hb]; · iexact Hb
  isplitl [Hheld HO]
  · isplitl [Hheld]; · iexact Hheld
    iexact HO
  isplitl [Hlev] <;> iassumption

/-! ## The run -/

/-- The run's end reads each unscoped buffer at its contents. -/
theorem held_agree (d : Dev nD) (s' : Phys nD τ sig (Elt F)) (r : Ref sig .tc) (hr : r.isScoped = false) :
    iprop(FIN m d ∗ SI s') ⊢ (⌜s'.mem.mem ((d : Thread nD τ).loc r) = V5 m d (Proc.devRef .tc r)⌝ : sProp 𝕄) := by
  unfold FIN held
  rw [SparseCore.bigSep_erase' (mem_ucRefs hr)]
  iintro ⟨⟨H, -⟩, HSI⟩
  ihave H := (SI_pointsTo_agree (st := s') (ℓ := (d : Thread nD τ).loc r) (I := Finset.univ) (q := fullShare) (f := V5 m d (Proc.devRef .tc r))) $$ [HSI H]
  · isplitl [HSI] <;> iassumption
  icases H with %h
  ipureintro; exact funext fun i => h i (Finset.mem_univ i)

/-- What the claims read of device `d`'s final state: the arguments and the result. -/
def fq (d : Dev nD) (s' : Phys nD τ sig (Elt F)) : Prop :=
  ∀ r ∈ [main_arg0, main_arg1, main_arg2, main_arg3, main_arg4, main_v14], s'.mem.mem ((d : Thread nD τ).loc r) = V5 m d (Proc.devRef .tc r)

theorem hfin (d : Dev nD) (s' : Phys nD τ sig (Elt F)) : iprop(FIN m d ∗ SI s') ⊢ (⌜fq m d s'⌝ : sProp 𝕄) := by
  iintro H
  ihave H := (persistent_entails_right (held_agree m d s' main_arg0 rfl)) $$ H
  icases H with ⟨%h0, H⟩
  ihave H := (persistent_entails_right (held_agree m d s' main_arg1 rfl)) $$ H
  icases H with ⟨%h1, H⟩
  ihave H := (persistent_entails_right (held_agree m d s' main_arg2 rfl)) $$ H
  icases H with ⟨%h2, H⟩
  ihave H := (persistent_entails_right (held_agree m d s' main_arg3 rfl)) $$ H
  icases H with ⟨%h3, H⟩
  ihave H := (persistent_entails_right (held_agree m d s' main_arg4 rfl)) $$ H
  icases H with ⟨%h4, H⟩
  ihave H := (held_agree m d s' main_v14 rfl) $$ H
  icases H with %h5
  ipureintro
  intro r hr
  simp only [List.mem_cons, List.not_mem_nil, or_false] at hr
  rcases hr with rfl | rfl | rfl | rfl | rfl | rfl <;> assumption

/-- The whole program's run: from any launch memory whose peaks and row offsets are in range, to the end's contents with
    every semaphore at zero. -/
theorem run_main [∀ e, Nonempty (Elt F e)] (hpre : ∀ d, PreOK (pk m d) (rc m d)) :
    θ_run (defs (F := F)) (threads (F := F)) ⟨m, fun _ => 0, ρ⟩
      fun r => (∀ d : Dev nD, ∀ b ∈ [main_arg0, main_arg1, main_arg2, main_arg3, main_arg4, main_v14],
        r.2.mem ((d : Thread nD τ).loc b) = V5 m d (Proc.devRef .tc b)) ∧ r.2.sem = fun _ => 0 :=
  SparseCore.Cfg.θ_run_sc_quiescent (K := K (F := F)) (D := D (F := F)) (𝒱 := 𝒱) (EH := EH) (P := P (F := F) (pk m) (rc m) (fo m)) (A := ∅) facts v₀
    (fun q hq => match q with | 0 => nomatch hq)
    (fun q _ => match q with | 0 => tileObl (pk m) (rc m) (fo m) facts hpre)
    (fun q _ => match q with | 0 => SparseCore.Cfg.VecSplit.of_plain (vecSplit (pk m) (rc m) (fo m)))
    m ρ main (fun d => G (F := F) d) (FIN m) (u₀ (F := F)) (sep_elim_left.trans (hu₀ m)) (hmain m ρ) (fq m) (hfin m) _ (fun _ h hz => ⟨h, hz⟩)

/-- The arguments are as they were. -/
theorem V5_arg (d : Dev nD) (r : Ref sig .tc) (hr : r ∈ [main_arg0, main_arg1, main_arg2, main_arg3, main_arg4]) :
    V5 m d (Proc.devRef .tc r) = m ((d : Thread nD τ).loc r) := by
  have hne : ∀ x : Ref sig .tc, (x ∉ [main_arg0, main_arg1, main_arg2, main_arg3, main_arg4]) → r ≠ x := fun x hx e => hx (e ▸ hr)
  have hA : r ∉ [main_c, main_v0] := fun h => by
    simp only [List.mem_cons, List.not_mem_nil, or_false] at h
    rcases h with h | h <;> exact hne _ (by decide) h
  have hB : r ∉ [main_v2, main_v3, main_v4, main_v5, main_v6, main_cst, main_v7, main_v8, main_v9, main_cst_0, main_v10, main_v11, main_v12] := fun h => by
    simp only [List.mem_cons, List.not_mem_nil, or_false] at h
    rcases h with h | h | h | h | h | h | h | h | h | h | h | h | h <;> exact hne _ (by decide) h
  have hT : r ∉ [main_v14] := fun h => hne _ (by decide) (List.mem_singleton.mp h)
  unfold V5
  rw [StableHlo.after_of_writes_sub [opT] _ (StableHlo.forall_writes_sub_of_map rfl) hT]
  refine (Function.update_of_ne (fun e => hne main_v13 (by decide) (Proc.devRef_injective _ e)) _ _).trans ?_
  unfold V3
  rw [StableHlo.after_of_writes_sub opsB _ (StableHlo.forall_writes_sub_of_map rfl) hB]
  refine (Function.update_of_ne (fun e => hne main_v1 (by decide) (Proc.devRef_injective _ e)) _ _).trans ?_
  unfold V1
  rw [StableHlo.after_of_writes_sub opsA _ (StableHlo.forall_writes_sub_of_map rfl) hA]
  rfl

end Cert.Proof

end
-- ==== Proof.Lit.lean ====
/-
  The table of row offsets in closed form: entry `i`, which belongs to column-list row `i / 50`, is 1024 times that row's
  number within its task.
-/
module

public import proofs.«01_k».proof.Proof.Scatter

@[expose] public section

noncomputable section

namespace Cert.Proof

open Cert.KernelIdeal Cert.KernelIdeal.Gen
open Idealize.ShloMosaic

/-- Twenty-five leaves of the table, from leaf `25 n` on. -/
def LitChunk (n : ℕ) : Prop :=
  ∀ k : Fin 25, ∀ r : Fin 128, lit0t (128 * (25 * n + k.val) + r.val) = BitVec.ofNat 32 (((128 * (25 * n + k.val) + r.val) / 50 % 32) * 1024)

set_option maxHeartbeats 0 in
theorem lit_chunk : ∀ n : Fin 16, LitChunk n.val := by
  intro n
  fin_cases n <;> (unfold LitChunk; decide +kernel)

theorem lit0_eq (i : Fin 51200) : lit0 i = BitVec.ofNat 32 ((i.val / 50 % 32) * 1024) := by
  have h := lit_chunk ⟨i.val / 3200, by omega⟩ ⟨i.val / 128 % 25, by omega⟩ ⟨i.val % 128, by omega⟩
  have e : 128 * (25 * (i.val / 3200) + i.val / 128 % 25) + i.val % 128 = i.val := by omega
  simp only [e] at h
  exact h

end Cert.Proof
-- ==== Proof.Frame.lean ====
/-
  The run claims. The precondition puts every peak below 1024, so every element number a task scatters to is below its
  accumulator's length; the kernel as printed is the idealized one's text with its constant in place of the name, so one
  run serves both; the reference's run is generated.
-/
module

public import proofs.«01_k».proof.Proof.Main
public import proofs.«01_k».proof.Proof.Lit
public import proofs.«01_k».proof.Proof.Gen.Kernel
public import proofs.«01_k».proof.Proof.Gen.Pre_peaks_in_range
public import proofs.«01_k».proof.Proof.Gen.ReferenceIdeal.Run
public import Idealize.ShloMosaic.Lib.ReduceAll
public import Idealize.ShloMosaic.Lib.Quiescent

@[expose] public section

noncomputable section

namespace Cert.Proof

open Cert.KernelIdeal Cert.KernelIdeal.Gen
open Idealize.ShloMosaic Idealize.ShloMosaic.TcCoe Idealize.SL.Sem

/-! ## The precondition -/

theorem andi_bools (p q : Bool) : IntOp.andi (BitVec.ofBool p) (BitVec.ofBool q) = BitVec.ofBool (p && q) := by
  cases p <;> cases q <;> decide
theorem bool_eq_one (p : Bool) : (BitVec.ofBool p = 1#1) ↔ p = true := by cases p <;> decide

theorem in_range_word (v : BitVec 32) (e : IntOp.andi (IntOp.cmpi .sge v 0#32) (IntOp.cmpi .slt v 1024#32) = 1#1) : v.toNat < 1024 := by
  simp only [IntOp.cmpi, andi_bools, bool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_peaks_in_range.S_.Idx := ⟨fun _ _ => funext fun a => a.elim0⟩

/-- The precondition, read at one peak. -/
theorem peak_lt {F : FTy → Type} [FloatOps F] (a0 : FVec F S1024x1024x1 .f32) (a1 : IVec S1024x50x1 32) (a2 : FVec F S1024x1x1 .f32)
    (a3 : FVec F S1x31 .f32) (a4 : FVec F S31 .f32) (h : Cert.Pre_peaks_in_range.fn (F := F) a0 a1 a2 a3 a4 = fun _ => 1#1) (i : S1024x50x1.Idx) :
    (a1 i).toNat < 1024 := by
  have e := congrFun h (fun a => a.elim0)
  have e' := Host.reduce_andi_all _ _ _ _ _ e i
  exact in_range_word _ e'

section
variable {F : FTy → Type} [FloatOps F] [Named F]
variable (m : (ℓ : Loc nD τ sig) → Buf (Elt F) ℓ)

/-- The peaks' list is the argument's elements in row-major order. -/
theorem pk_eq (d : Dev nD) : pk m d = shapeCast S51200 (m ((d : Thread nD τ).loc main_arg1)) shapeCasts_S1024x50x1_S51200 := by
  unfold pk V1 V0 opsA
  after_results_simp
  rfl

theorem rc_eq (d : Dev nD) (i : S51200.Idx) : rc m d i = BitVec.ofNat 32 (((i 0).val / 50 % 32) * 1024) := by
  have h : rc m d = fun i => lit0 (S51200.rowMajor i) := by
    unfold rc V1 V0 opsA
    after_results_simp
    rfl
  rw [h]
  refine (lit0_eq _).trans ?_
  rw [Shape.rowMajor_val_one]

theorem preOK (hpk : ∀ d : Dev nD, ∀ i, (m ((d : Thread nD τ).loc main_arg1) i : BitVec 32).toNat < 1024) (d : Dev nD) : PreOK (pk m d) (rc m d) := by
  intro j
  have h1 : (show BitVec 32 from pk m d j).toNat < 1024 := by rw [pk_eq]; exact hpk d _
  have h2 : (show BitVec 32 from rc m d j).toNat ≤ 31 * 1024 := by rw [rc_eq]; exact (BitVec.toNat_ofNat _ _).trans_le (by omega)
  have h3 := (BitVec.toNat_add (show BitVec 32 from rc m d j) (show BitVec 32 from pk m d j)).trans_le (Nat.mod_le _ _)
  exact lt_of_le_of_lt h3 (by omega)

end

/-! ## The kernel as printed -/

/-- At bit patterns the name's constant is the pattern it was printed with. -/
instance namedBits : Named Bits where
  named _ _ {φ} bits := FloatOps.ofBits φ bits

theorem kernel_bodies : Cert.Kernel.defs₀ (F := Bits) = Cert.KernelIdeal.defs₀ (F := Bits) := by
  funext p ℓ a
  match p, ℓ, a with
  | .scVector c s, 0, _ => rfl
  | .scVector c s, 1, _ => rfl
  | .scScalar c, 0, _ => rfl
  | .scScalar c, 1, _ => rfl
  | .tc, 0, _ => rfl
  | .tc, 1, (t, s) => rfl

theorem kernel_defs : Cert.Kernel.defs (F := Bits) = Cert.KernelIdeal.defs (F := Bits) := by
  show Cert.Kernel.sc.defs (Pipeline.defs Cert.KernelIdeal.pcfgs (Cert.Kernel.defs₀ (F := Bits))) = Cert.Kernel.sc.defs (Pipeline.defs Cert.KernelIdeal.pcfgs (Cert.KernelIdeal.defs₀ (F := Bits)))
  rw [kernel_bodies]

theorem kernel_table : Cert.Kernel.lit0 = Cert.KernelIdeal.lit0 := rfl

theorem kernel_main (d : Dev Cert.Kernel.nD) : Cert.Kernel.main (F := Bits) d = Cert.KernelIdeal.main (F := Bits) d := by
  rw [main_eq]
  simp only [Cert.Kernel.main, opsA, opsB, opT, StableHlo.seq, bind_assoc, pure_bind]
  rw [kernel_table]
  rfl

theorem kernel_threads : Cert.Kernel.threads (F := Bits) = Cert.KernelIdeal.threads (F := Bits) := by
  show Cert.Kernel.sc.threads (Cert.Kernel.main (F := Bits)) = Cert.Kernel.sc.threads (Cert.KernelIdeal.main (F := Bits))
  rw [show Cert.Kernel.main (F := Bits) = Cert.KernelIdeal.main (F := Bits) from funext kernel_main]

/-! ## The claims -/

theorem frame_p : Cert.quiescent_Kernel := by
  intro m ρ hpre
  rw [kernel_defs, kernel_threads]
  refine (θ_run (Cert.KernelIdeal.defs (F := Bits)) _ _).mono (fun r h => ⟨fun c => ?_, h.2⟩)
    (run_main (F := Bits) m ρ (preOK m fun d => peak_lt _ _ _ _ _ (hpre d)))
  exact ⟨(h.1 c main_arg0 (by simp)).trans (V5_arg m c main_arg0 (by simp)), (h.1 c main_arg1 (by simp)).trans (V5_arg m c main_arg1 (by simp)),
    (h.1 c main_arg2 (by simp)).trans (V5_arg m c main_arg2 (by simp)), (h.1 c main_arg3 (by simp)).trans (V5_arg m c main_arg3 (by simp)),
    (h.1 c main_arg4 (by simp)).trans (V5_arg m c main_arg4 (by simp))⟩

theorem frame_pi : Cert.quiescent_KernelIdeal := by
  intro m ρ hpre
  refine (θ_run (Cert.KernelIdeal.defs (F := Ideal)) _ _).mono (fun r h => ⟨fun c => ?_, h.2⟩)
    (run_main (F := Ideal) m ρ (preOK m fun d => peak_lt _ _ _ _ _ (hpre d)))
  exact ⟨(h.1 c main_arg0 (by simp)).trans (V5_arg m c main_arg0 (by simp)), (h.1 c main_arg1 (by simp)).trans (V5_arg m c main_arg1 (by simp)),
    (h.1 c main_arg2 (by simp)).trans (V5_arg m c main_arg2 (by simp)), (h.1 c main_arg3 (by simp)).trans (V5_arg m c main_arg3 (by simp)),
    (h.1 c main_arg4 (by simp)).trans (V5_arg m c main_arg4 (by simp))⟩

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "log_step" .f32 0x3EEBC8E3#32 (((Real.log 1000) * 15⁻¹ : ℝ) : EReal) rfl

end Cert.Proof

end
-- ==== Proof.Block.lean ====
/-
  The result's block at a coordinate, over the extended reals: weight times series value, plus the peak mark on feature 31
  and elsewhere the bias with the sine or cosine of the variance's angle.
-/
module

public import proofs.«01_k».proof.Proof.Frame
public import Idealize.ShloMosaic.Lib.Pointwise

@[expose] public section

noncomputable section

namespace Cert.Proof

open Cert.KernelIdeal Cert.KernelIdeal.Gen
open Idealize.ShloMosaic

/-- The word of 2π that both programs multiply by. -/
def twoPi : EReal := Ideal.ofBits .f32 0x40C90FDB#32
/-- Frequency `k` of the sixteen: 1000 to the power k / 15. -/
def freq (k : ℕ) : EReal := Ideal.exp (((k : ℝ) * (Real.log 1000 * 15⁻¹) : ℝ) : EReal)
/-- The angle of frequency `k` at variance `v`. -/
def ang (k : ℕ) (v : EReal) : EReal := v * (twoPi * freq k)
/-- What feature `f` of a row of variance `v` has from the variance: sines at 32 to 47, cosines from 48 on. -/
def tail (f : ℕ) (v : EReal) : EReal :=
  if f < 32 then 0 else if f < 48 then Ideal.sin (ang (f - 32) v) else Ideal.cos (ang (f - 48) v)

theorem log_step : Named.named (F := Ideal) κ "log_step" (φ := .f32) 0x3EEBC8E3#32 = (((Real.log 1000) * 15⁻¹ : ℝ) : EReal) :=
  IdealRules.named_const.ideal_named_scalar _ _ _ _ rfl

/-- The weight's column at a coordinate. -/
theorem pay3_at (w : FVec Ideal S8x64 .f32) (f : Fin 64) (l : Fin 256) : k1_pay3 (F := Ideal) w (ix2 f l) = w (ix2 0 f) := by
  pointwise [k1_pay3]

theorem lane_real (k : ℕ) (h : k < 16) : (FloatOps.sitofp (F := Ideal) FTy.f32 (BitVec.ofNat 32 k) : EReal) = ((k : ℝ) : EReal) := by
  have e : (BitVec.ofNat 32 k).toInt = k := by
    rw [BitVec.toInt_eq_toNat_of_lt] <;> simp <;> omega
  show (((BitVec.ofNat 32 k).toInt : ℝ) : EReal) = _
  rw [e]; simp

/-- The bias with the variance's part at a coordinate, when the row's sixteen variances are one value. -/
theorem pay2_at (v : FVec Ideal S64x16 .f32) (b : FVec Ideal S8x64 .f32) (f r : Fin 64) (x : EReal)
    (hv : ∀ k : Fin 16, v (ix2 r k) = x) : k1_pay2 (F := Ideal) v b (ix2 f r) = b (ix2 0 f) + tail f x := by
  have hf := f.isLt
  pointwise [k1_pay2]
  congr 1
  unfold tail ang freq twoPi
  by_cases h : f.val < 32
  · simp [h]
  · by_cases h' : f.val < 48
    · have h2 : f.val - 32 < 16 := by omega
      rw [dif_neg h, dif_pos h2, if_neg h, if_pos h', hv, lane_real _ h2, log_step, EReal.coe_mul (f.val - 32 : ℕ)]
    · have h2 : ¬ f.val - 32 < 16 := by omega
      rw [dif_neg h, dif_neg h2, if_neg h, if_neg h', hv, lane_real _ (by omega), log_step, show f.val - 32 - 16 = f.val - 48 by omega, EReal.coe_mul (f.val - 48 : ℕ)]

theorem pay4_at (f : Fin 64) (l : Fin 256) : k1_pay4 (ix2 f l) = 1#1 ↔ f.val = 31 := by
  have hf := f.isLt
  pointwise [k1_pay4]
  have e : (BitVec.ofNat 32 f.val = 31#32) ↔ f.val = 31 := by
    rw [← BitVec.toNat_inj, BitVec.toNat_ofNat]; simp; omega
  unfold IntOp.cmpi
  by_cases h : f.val = 31
  · simp [h]
  · have h' := mt e.mp h
    rw [beq_eq_false_iff_ne.mpr h']; simp [h]

theorem mat_eq (a : Fin 64) (l : Fin 256) : mat a l = ix2 a l := by
  funext i; fin_cases i <;> rfl
theorem sqr_eq (a l : Fin 64) : sqr a l = ix2 a l := by
  funext i; fin_cases i <;> rfl

/-- The block at a coordinate. -/
theorem blk_at (s d : FVec Ideal S64x256 .f32) (v : FVec Ideal S64x16 .f32) (w b : FVec Ideal S8x64 .f32)
    (y : S64x64x256.Idx) (x : EReal) (hv : ∀ k : Fin 16, v (ix2 (bRow y) k) = x) :
    blkVal (F := Ideal) s d v w b y
      = w (ix2 0 (bFeat y)) * s (ix2 (bRow y) (bPt y)) + (if (y 1).val = 31 then d (ix2 (bRow y) (bPt y)) else b (ix2 0 (bFeat y)) + tail (y 1).val x) := by
  unfold blkVal cell k1_pay5 k1_pay6
  rw [mat_eq, mat_eq, sqr_eq, pay3_at, pay2_at v b _ _ x hv, shapeCast_self, shapeCast_self]
  show _ * _ + _ = _
  congr 1
  exact ite_congr (propext (pay4_at _ _)) (fun _ => rfl) (fun _ => rfl)

end Cert.Proof

end
-- ==== Proof.Array.lean ====
/-
  The result's array after the TensorCore kernel, over the extended reals, element by element: the blocks of the grid's
  points tile it, and each is the block value of the operands' blocks.
-/
module

public import proofs.«01_k».proof.Proof.Block
public import Idealize.ShloMosaic.Lib.Pipeline.ValueKit

@[expose] public section

noncomputable section

namespace Cert.Proof

open Cert.KernelIdeal Cert.KernelIdeal.Gen
open Idealize.ShloMosaic
open Idealize.ShloMosaic.TcCoe
open Idealize.ShloMosaic.Pipeline (Dat Cfg Window)

/-- Grid point `t` is batch block `t / 4`, point block `t % 4`: the blocks each window is at. -/
theorem idx0 : ∀ t : Fin cfg1.N, win1_0.index t = ![t.val / 4, t.val % 4] := (by decide +kernel : ∀ t : Fin grid1.N, _)
theorem idx1 : ∀ t : Fin cfg1.N, win1_1.index t = ![t.val / 4, t.val % 4] := (by decide +kernel : ∀ t : Fin grid1.N, _)
theorem idx2 : ∀ t : Fin cfg1.N, win1_2.index t = ![t.val / 4, 0] := (by decide +kernel : ∀ t : Fin grid1.N, _)
theorem idx3 : ∀ t : Fin cfg1.N, win1_3.index t = ![0, 0] := (by decide +kernel : ∀ t : Fin grid1.N, _)
theorem idx4 : ∀ t : Fin cfg1.N, win1_4.index t = ![0, 0] := (by decide +kernel : ∀ t : Fin grid1.N, _)
theorem idx5 : ∀ t : Fin cfg1.N, win1_5.index t = ![t.val / 4, 0, t.val % 4] := (by decide +kernel : ∀ t : Fin grid1.N, _)

theorem idx2_ext {n k : ℕ} {x y : (⟨2, ![n, k]⟩ : Shape).Idx} (h0 : (x 0).val = (y 0).val) (h1 : (x 1).val = (y 1).val) : x = y := by
  funext a; fin_cases a
  · exact Fin.ext h0
  · exact Fin.ext h1

/-- The result's array: batch row, feature, point. -/
def arr (s d : S1024x1024.Idx → EReal) (v : S1024x16.Idx → EReal) (w b : S8x64.Idx → EReal) : S1024x64x1024.Idx → EReal := fun j =>
  w (ix2 0 (j 1)) * s (ix2 (j 0) (j 2)) + (if (j 1).val = 31 then d (ix2 (j 0) (j 2)) else b (ix2 0 (j 1)) + tail (j 1).val (v (ix2 (j 0) 0)))

variable (VA : (c : Dev nD) → (b : Ref sig .tc) → Buf (Elt Ideal) ((c : Thread nD τ).loc b))

/-- The array at the end, when the variance operand's sixteen columns are one. -/
theorem final_eq (b : ℕ) (c : Dev nD) (hv : ∀ (r : Fin 1024) (k : Fin 16), (VA c main_v5 : S1024x16.Idx → EReal) (ix2 r k) = (VA c main_v5 : S1024x16.Idx → EReal) (ix2 r 0)) :
    final VA b c = arr (VA c main_v3) (VA c main_v2) (VA c main_v5) (VA c main_v9) (VA c main_v12) := by
  unfold final
  refine (dat VA b c).arrAt_eq_of_covers 5 _ (by decide +kernel) fun t hf y => ?_
  blk_simp
  have h0 : (y 0).val < 64 := (y 0).isLt
  have h1 : (y 1).val < 64 := (y 1).isLt
  have h2 : (y 2).val < 256 := (y 2).isLt
  have ht : t.val < 64 := t.isLt
  have E0 : ((win1_5.blk t).view.emb y 0 : ℕ) = t.val / 4 * 64 + (y 0).val := by blk_simp [idx5]
  have E1 : ((win1_5.blk t).view.emb y 1 : ℕ) = (y 1).val := by blk_simp [idx5]
  have E2 : ((win1_5.blk t).view.emb y 2 : ℕ) = t.val % 4 * 256 + (y 2).val := by blk_simp [idx5]
  generalize hj : (win1_5.blk t).view.emb y = j at E0 E1 E2 ⊢
  have j0 : (j 0).val < 1024 := (j 0).isLt
  have j1 : (j 1).val < 64 := (j 1).isLt
  have j2 : (j 2).val < 1024 := (j 2).isLt
  have e0 : (stg VA c 0 t : S64x256.Idx → EReal) (ix2 (bRow y) (bPt y)) = (VA c main_v3 : S1024x1024.Idx → EReal) (ix2 (j 0) (j 2)) := by
    refine congrArg (VA c main_v3 : S1024x1024.Idx → EReal) (idx2_ext ?_ ?_)
    · exact (show ((win1_0.blk t).view.emb (ix2 (bRow y) (bPt y)) 0 : ℕ) = _ by blk_simp [idx0]; exact E0.symm)
    · exact (show ((win1_0.blk t).view.emb (ix2 (bRow y) (bPt y)) 1 : ℕ) = _ by blk_simp [idx0]; exact E2.symm)
  have e1 : (stg VA c 1 t : S64x256.Idx → EReal) (ix2 (bRow y) (bPt y)) = (VA c main_v2 : S1024x1024.Idx → EReal) (ix2 (j 0) (j 2)) := by
    refine congrArg (VA c main_v2 : S1024x1024.Idx → EReal) (idx2_ext ?_ ?_)
    · exact (show ((win1_1.blk t).view.emb (ix2 (bRow y) (bPt y)) 0 : ℕ) = _ by blk_simp [idx1]; exact E0.symm)
    · exact (show ((win1_1.blk t).view.emb (ix2 (bRow y) (bPt y)) 1 : ℕ) = _ by blk_simp [idx1]; exact E2.symm)
  have e2 : ∀ k : Fin 16, (stg VA c 2 t : S64x16.Idx → EReal) (ix2 (bRow y) k) = (VA c main_v5 : S1024x16.Idx → EReal) (ix2 (j 0) 0) := by
    intro k
    rw [← hv (j 0) k]
    refine congrArg (VA c main_v5 : S1024x16.Idx → EReal) (idx2_ext ?_ ?_)
    · exact (show ((win1_2.blk t).view.emb (ix2 (bRow y) k) 0 : ℕ) = _ by blk_simp [idx2]; exact E0.symm)
    · exact (show ((win1_2.blk t).view.emb (ix2 (bRow y) k) 1 : ℕ) = _ by blk_simp [idx2])
  have e3 : (stg VA c 3 t : S8x64.Idx → EReal) (ix2 0 (bFeat y)) = (VA c main_v9 : S8x64.Idx → EReal) (ix2 0 (j 1)) := by
    refine congrArg (VA c main_v9 : S8x64.Idx → EReal) (idx2_ext ?_ ?_)
    · exact (show ((win1_3.blk t).view.emb (ix2 0 (bFeat y)) 0 : ℕ) = _ by blk_simp [idx3])
    · exact (show ((win1_3.blk t).view.emb (ix2 0 (bFeat y)) 1 : ℕ) = _ by blk_simp [idx3]; exact E1.symm)
  have e4 : (stg VA c 4 t : S8x64.Idx → EReal) (ix2 0 (bFeat y)) = (VA c main_v12 : S8x64.Idx → EReal) (ix2 0 (j 1)) := by
    refine congrArg (VA c main_v12 : S8x64.Idx → EReal) (idx2_ext ?_ ?_)
    · exact (show ((win1_4.blk t).view.emb (ix2 0 (bFeat y)) 0 : ℕ) = _ by blk_simp [idx4])
    · exact (show ((win1_4.blk t).view.emb (ix2 0 (bFeat y)) 1 : ℕ) = _ by blk_simp [idx4]; exact E1.symm)
  refine (blk_at _ _ _ _ _ y _ e2).trans ?_
  rw [e0, e1, e3, e4, ← E1]
  rfl

end Cert.Proof

end
-- ==== Proof.Host.lean ====
/-
  The operands of the TensorCore kernel, element by element: the series and the variance reshaped, the padded weight and
  bias, and the scattered ones as the marks of the peaks.
-/
module

public import proofs.«01_k».proof.Proof.Array

@[expose] public section

noncomputable section

namespace Cert.Proof

open Cert.KernelIdeal Cert.KernelIdeal.Gen
open Idealize.ShloMosaic
open Idealize.ShloMosaic.TcCoe
open Idealize.ShloMosaic.StableHlo (after)

/-- Some peak of batch row `b` is at point `l`, which is not the point 0. -/
def Peak (a : S1024x50x1.Idx → BitVec 32) (b l : ℕ) : Prop :=
  l ≠ 0 ∧ ∃ i : S1024x50x1.Idx, (i 0).val = b ∧ (a i).toNat = l

open Classical in
/-- The mark of a point: one at a peak, zero elsewhere. -/
def mark (a : S1024x50x1.Idx → BitVec 32) (b l : ℕ) : EReal := if Peak a b l then oneF (F := Ideal) else zeroF (F := Ideal)

/-- The scattered ones are the marks. -/
theorem scat_mark (a : S1024x50x1.Idx → BitVec 32) (pk rc : S51200.Idx → BitVec 32) (ha : ∀ i, (a i).toNat < 1024)
    (hpk : pk = shapeCast S51200 a shapeCasts_S1024x50x1_S51200) (hrc : ∀ i, rc i = BitVec.ofNat 32 (((i 0).val / 50 % 32) * 1024))
    (b l : Fin 1024) (j : S1048576.Idx) (hj : (j 0).val = 1024 * b.val + l.val) :
    scat (F := Ideal) pk rc j = mark a b.val l.val := by
  have hb := b.isLt
  have hl := l.isLt
  have key : ∀ (i : S1024x50x1.Idx) (e : S51200.Idx), (e 0).val = 50 * (i 0).val + (i 1).val → pk e = a i := by
    intro i e he
    rw [hpk]
    refine shapeCast_apply _ _ _ _ ?_
    rw [Shape.rowMajor_val_one, Shape.rowMajor_val_three]
    have h2 : (i 2).val < 1 := (i 2).isLt
    show ((i 0).val * 50 + (i 1).val) * 1 + (i 2).val = (e 0).val
    omega
  rw [scat_row pk rc (b.val / 32) (by omega) (b.val % 32 * 1024 + l.val) (by omega) j (by omega)]
  unfold acc mark
  suffices hiff : Hit (sl pk (b.val / 32) (by omega)) (sl rc (b.val / 32) (by omega)) 1600 ((ix 32768 (b.val % 32 * 1024 + l.val) (by omega) : S32768.Idx) 0).val ↔ Peak a b.val l.val by
    by_cases h : Peak a b.val l.val
    · rw [if_pos h, if_pos (hiff.mpr h)]
    · rw [if_neg h, if_neg (mt hiff.mp h)]
  have hsum : ∀ (x : S1600.Idx) (i : S1024x50x1.Idx), 1600 * (b.val / 32) + (x 0).val = 50 * (i 0).val + (i 1).val →
      sl pk (b.val / 32) (by omega) x = a i ∧ (sl rc (b.val / 32) (by omega) x + a i).toNat = (i 0).val % 32 * 1024 + (a i).toNat := by
    intro x i h
    have hx : (x 0).val < 1600 := (x 0).isLt
    have h1 : (i 1).val < 50 := (i 1).isLt
    have h0 : (i 0).val < 1024 := (i 0).isLt
    have hai := ha i
    refine ⟨key i _ h, ?_⟩
    have e : sl rc (b.val / 32) (by omega) x = BitVec.ofNat 32 ((i 0).val % 32 * 1024) := by
      unfold sl
      rw [hrc]
      congr 2
      show (1600 * (b.val / 32) + (x 0).val) / 50 % 32 = _
      rw [h]; omega
    rw [e, BitVec.toNat_add, BitVec.toNat_ofNat]
    omega
  constructor
  · rintro ⟨x, -, hne, hx⟩
    have hx0 : (x 0).val < 1600 := (x 0).isLt
    obtain ⟨i, hi⟩ : ∃ i : S1024x50x1.Idx, 1600 * (b.val / 32) + (x 0).val = 50 * (i 0).val + (i 1).val :=
      ⟨ix3 ⟨(1600 * (b.val / 32) + (x 0).val) / 50, by omega⟩ ⟨(1600 * (b.val / 32) + (x 0).val) % 50, by omega⟩ 0,
        by show _ = 50 * ((1600 * (b.val / 32) + (x 0).val) / 50) + (1600 * (b.val / 32) + (x 0).val) % 50; omega⟩
    have h1 : (i 1).val < 50 := (i 1).isLt
    obtain ⟨h2, h3⟩ := hsum x i hi
    have hai := ha i
    rw [h2] at hne hx
    rw [h3] at hx
    change (i 0).val % 32 * 1024 + (a i).toNat = b.val % 32 * 1024 + l.val at hx
    refine ⟨?_, i, by omega, by omega⟩
    intro h0
    exact hne (BitVec.eq_of_toNat_eq (show (a i).toNat = (0#32).toNat by simp; omega))
  · rintro ⟨h0, i, hi, hl'⟩
    have h1 : (i 1).val < 50 := (i 1).isLt
    have hb' : 50 * (i 0).val + (i 1).val - 1600 * (b.val / 32) < 1600 := by omega
    refine ⟨ix 1600 (50 * (i 0).val + (i 1).val - 1600 * (b.val / 32)) hb', by rw [ix_val]; omega, ?_⟩
    obtain ⟨h2, h3⟩ := hsum (ix 1600 (50 * (i 0).val + (i 1).val - 1600 * (b.val / 32)) hb') i (by rw [ix_val]; omega)
    rw [h2, h3]
    refine ⟨fun e => h0 (by rw [← hl', e]; rfl), ?_⟩
    show (i 0).val % 32 * 1024 + (a i).toNat = b.val % 32 * 1024 + l.val
    omega

section

variable (m : (ℓ : Loc nD τ sig) → Buf (Elt Ideal) ℓ) (d : Dev nD)

theorem V2_arg (r : Ref sig .tc) (h1 : r ≠ main_v1) (h : r ∉ [main_c, main_v0]) : V2 m d (Proc.devRef .tc r) = m ((d : Thread nD τ).loc r) := by
  refine (Function.update_of_ne (fun e => h1 (Proc.devRef_injective _ e)) _ _).trans ?_
  unfold V1
  rw [StableHlo.after_of_writes_sub opsA _ (StableHlo.forall_writes_sub_of_map rfl) h]
  rfl

theorem V3_s (b l : Fin 1024) : (VA3 m d main_v3 : S1024x1024.Idx → EReal) (ix2 b l) = (m ((d : Thread nD τ).loc main_arg0) : S1024x1024x1.Idx → EReal) (ix3 b l 0) := by
  have h : VA3 m d main_v3 = shapeCast S1024x1024 (V2 m d (Proc.devRef .tc main_arg0)) shapeCasts_S1024x1024x1_S1024x1024 := by
    unfold VA3 V3 opsB
    after_results_simp
    rfl
  rw [h, V2_arg m d main_arg0 (by decide) (by decide)]
  pointwise []

theorem V3_d (b l : Fin 1024) (j : S1048576.Idx) (hj : (j 0).val = 1024 * b.val + l.val) :
    (VA3 m d main_v2 : S1024x1024.Idx → EReal) (ix2 b l) = scat (F := Ideal) (pk m d) (rc m d) j := by
  have h : VA3 m d main_v2 = shapeCast S1024x1024 (V2 m d bo) shapeCasts_S1048576_S1024x1024 := by
    unfold VA3 V3 opsB
    after_results_simp
    rfl
  rw [h, show V2 m d bo = scat (F := Ideal) (pk m d) (rc m d) from Function.update_self _ _ _]
  refine shapeCast_apply _ _ _ _ ?_
  refine (Shape.rowMajor_val_one j).trans ?_
  rw [Shape.rowMajor_val_two]
  show (j 0).val = b.val * 1024 + l.val
  omega

theorem V3_v (b : Fin 1024) (k : Fin 16) : (VA3 m d main_v5 : S1024x16.Idx → EReal) (ix2 b k) = (m ((d : Thread nD τ).loc main_arg2) : S1024x1x1.Idx → EReal) (ix3 b 0 0) := by
  have h : VA3 m d main_v5 = broadcastInDim S1024x16 ![0, 1] bcast_S1024x1_S1024x16_0_1 (shapeCast S1024x1 (V2 m d (Proc.devRef .tc main_arg2)) shapeCasts_S1024x1x1_S1024x1) := by
    unfold VA3 V3 opsB
    after_results_simp
    rfl
  rw [h, V2_arg m d main_arg2 (by decide) (by decide)]
  pointwise []

/-- A row of 31 padded with zeros to 64. -/
def pad (x : Fin 31 → EReal) (f : Fin 64) : EReal := if h : f.val < 31 then x ⟨f.val, h⟩ else 0

theorem V3_w (f : Fin 64) : (VA3 m d main_v9 : S8x64.Idx → EReal) (ix2 0 f) = pad (fun k => (m ((d : Thread nD τ).loc main_arg3) : S1x31.Idx → EReal) (ix2 0 k)) f := by
  have h : VA3 m d main_v9 = broadcastInDim S8x64 ![1] bcast_S64_S8x64_1 (concatenate S64 0 [⟨S31, shapeCast S31 (V2 m d (Proc.devRef .tc main_arg3)) shapeCasts_S1x31_S31⟩, ⟨S33, broadcastInDim S33 ![] bcast_S_S33 (constant (F := Ideal) S_ .f32 0x00000000#32)⟩] concatenates_S31_S33_S64_d0) := by
    unfold VA3 V3 opsB
    after_results_simp
    rfl
  rw [h, V2_arg m d main_arg3 (by decide) (by decide)]
  pointwise [pad]

theorem V3_b (f : Fin 64) : (VA3 m d main_v12 : S8x64.Idx → EReal) (ix2 0 f) = pad (fun k => (m ((d : Thread nD τ).loc main_arg4) : S31.Idx → EReal) (ix1 k)) f := by
  have h : VA3 m d main_v12 = broadcastInDim S8x64 ![1] bcast_S64_S8x64_1 (concatenate S64 0 [⟨S31, V2 m d (Proc.devRef .tc main_arg4)⟩, ⟨S33, broadcastInDim S33 ![] bcast_S_S33 (constant (F := Ideal) S_ .f32 0x00000000#32)⟩] concatenates_S31_S33_S64_d0) := by
    unfold VA3 V3 opsB
    after_results_simp
    rfl
  rw [h, V2_arg m d main_arg4 (by decide) (by decide)]
  pointwise [pad]

/-- The program's result at an index (batch row, point, feature). -/
theorem V5_out (ha : ∀ i, ((m ((d : Thread nD τ).loc main_arg1) : S1024x50x1.Idx → BitVec 32) i).toNat < 1024) (b l : Fin 1024) (f : Fin 64) :
    (V5 m d (Proc.devRef .tc main_v14) : S1024x1024x64.Idx → EReal) (ix3 b l f)
      = pad (fun k => (m ((d : Thread nD τ).loc main_arg3) : S1x31.Idx → EReal) (ix2 0 k)) f * (m ((d : Thread nD τ).loc main_arg0) : S1024x1024x1.Idx → EReal) (ix3 b l 0)
        + (if f.val = 31 then mark (m ((d : Thread nD τ).loc main_arg1)) b.val l.val
          else pad (fun k => (m ((d : Thread nD τ).loc main_arg4) : S31.Idx → EReal) (ix1 k)) f + tail f.val ((m ((d : Thread nD τ).loc main_arg2) : S1024x1x1.Idx → EReal) (ix3 b 0 0))) := by
  have h : V5 m d (Proc.devRef .tc main_v14) = transpose S1024x1024x64 [0, 2, 1] (VA4 m d main_v13) transposes_S1024x64x1024_S1024x1024x64_0_2_1 := by
    unfold V5 opT
    after_results_simp
  rw [h, VA4_out, final_eq (VA3 m) lvE d fun r k => (V3_v m d r k).trans (V3_v m d r 0).symm]
  have ht : (transpose S1024x1024x64 [0, 2, 1] (arr (VA3 m d main_v3) (VA3 m d main_v2) (VA3 m d main_v5) (VA3 m d main_v9) (VA3 m d main_v12)) transposes_S1024x64x1024_S1024x1024x64_0_2_1 : S1024x1024x64.Idx → EReal) (ix3 b l f)
      = arr (VA3 m d main_v3) (VA3 m d main_v2) (VA3 m d main_v5) (VA3 m d main_v9) (VA3 m d main_v12) (ix3 b f l) := by
    pointwise []
  refine ht.trans ?_
  have hx : ∀ (s d : S1024x1024.Idx → EReal) (v : S1024x16.Idx → EReal) (w b' : S8x64.Idx → EReal), arr s d v w b' (ix3 b f l)
      = w (ix2 0 f) * s (ix2 b l) + (if f.val = 31 then d (ix2 b l) else b' (ix2 0 f) + tail f.val (v (ix2 b 0))) := fun _ _ _ _ _ => rfl
  refine (hx _ _ _ _ _).trans ?_
  have hj : 1024 * b.val + l.val < 1048576 := by omega
  rw [V3_w, V3_s, V3_b, V3_v, V3_d m d b l (ix 1048576 _ hj) (ix_val _ _ _ _), scat_mark _ _ _ ha (pk_eq m d) (rc_eq m d) b l _ (ix_val _ _ _ _)]

end

end Cert.Proof

end
-- ==== Proof.Ref.lean ====
/-
  The reference's result over the extended reals, element by element.
-/
module

public import proofs.«01_k».proof.Proof.Host
public import Idealize.ShloMosaic.Lib.Routing.OpsPair

@[expose] public section

noncomputable section

namespace Cert.Proof

open Cert.ReferenceIdeal Cert.ReferenceIdeal.Gen
open Idealize.ShloMosaic
open Idealize.ShloMosaic.TcCoe

/-! ## The result's parts, as functions of the arguments -/

/-- The list of places: batch row times 1024 plus the peak, both clipped to 0 … 1023. -/
def refPlace (a1 : IVec S1024x50x1 32) : IVec S51200 32 :=
  addi (addi (broadcastInDim S51200 ![] bcast_S_S51200 (constantI S_ 32 0#32)) (muli (minsi (broadcastInDim S51200 ![] bcast_S_S51200 (id (constantI S_ 32 1023#32))) (maxsi (broadcastInDim S51200 ![] bcast_S_S51200 (id (constantI S_ 32 0#32))) (shapeCast S51200 (broadcastInDim S1024x50 ![0] bcast_S1024_S1024x50_0 (iotaInDim S1024 32 0)) shapeCasts_S1024x50_S51200))) (broadcastInDim S51200 ![] bcast_S_S51200 (constantI S_ 32 1024#32)))) (muli (minsi (broadcastInDim S51200 ![] bcast_S_S51200 (id (constantI S_ 32 1023#32))) (maxsi (broadcastInDim S51200 ![] bcast_S_S51200 (id (constantI S_ 32 0#32))) (shapeCast S51200 (shapeCast S1024x50 a1 shapeCasts_S1024x50x1_S1024x50) shapeCasts_S1024x50_S51200))) (broadcastInDim S51200 ![] bcast_S_S51200 (constantI S_ 32 1#32)))

/-- The places, a negative one counted from the end. -/
def refWrap (p : IVec S51200 32) : IVec S51200x1 32 :=
  broadcastInDim S51200x1 ![0] bcast_S51200_S51200x1_0 (select (cmpi .slt p (broadcastInDim S51200 ![] bcast_S_S51200 (constantI S_ 32 0#32))) (addi p (broadcastInDim S51200 ![] bcast_S_S51200 (constantI S_ 32 1048576#32))) p)

/-- Ones scattered at the places into zeros. -/
def refOnes (p : IVec S51200x1 32) : FVec Ideal S1048576 .f32 :=
  Host.scatter scatter_S1048576_S51200x1_S51200_n_0_0_1 (fun _ b => b) (broadcastInDim S1048576 ![] bcast_S_S1048576 (constant S_ .f32 0x00000000#32)) p (broadcastInDim S51200 ![] bcast_S_S51200 (constant S_ .f32 0x3F800000#32))

/-- Those with the points 0 cleared. -/
def refClear (x : FVec Ideal S1048576 .f32) : FVec Ideal S1024x1024 .f32 :=
  Host.scatter scatter_S1024x1024_S1_S1024_0_1_1_0 (fun _ b => b) (shapeCast S1024x1024 x shapeCasts_S1048576_S1024x1024) (broadcastInDim S1 ![] bcast_S_S1 (constantI S_ 32 0#32)) (broadcastInDim S1024 ![] bcast_S_S1024 (constant S_ .f32 0x00000000#32))

/-- The sixteen frequencies times 2π. -/
def refFreq : FVec Ideal S16 .f32 :=
  mulf (broadcastInDim S16 ![] bcast_S_S16 (constant S_ .f32 0x40C90FDB#32)) (Host.exp (concatenate S16 0 [⟨S15, (addf (mulf (broadcastInDim S15 ![0] bcast_S1_S15_0 (shapeCast S1 (id (Host.log (constant S_ .f32 0x3F800000#32))) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast S1 (id (Host.log (constant S_ .f32 0x447A0000#32))) shapeCasts_S_S1)) (Host.divf (sitofp .f32 (iotaInDim S15 32 0)) (broadcastInDim S15 ![] bcast_S_S15 (constant S_ .f32 0x41700000#32)))))⟩, ⟨S1, (broadcastInDim S1 ![] bcast_S_S1 (id (Host.log (constant S_ .f32 0x447A0000#32))))⟩] concatenates_S15_S1_S16_d0))

/-- The angles. -/
def refAngle (fr : FVec Ideal S16 .f32) (a2 : FVec Ideal S1024x1x1 .f32) : FVec Ideal S1024x1x16 .f32 :=
  mulf (broadcastInDim S1024x1x16 ![0, 1, 2] bcast_S1x1x16_S1024x1x16_0_1_2 (broadcastInDim S1x1x16 ![1, 2] bcast_S1x16_S1x1x16_1_2 (broadcastInDim S1x16 ![1] bcast_S16_S1x16_1 fr))) (broadcastInDim S1024x1x16 ![0, 1, 2] bcast_S1024x1x1_S1024x1x16_0_1_2 a2)

/-- Their sines and cosines, at every point. -/
def refWave (g : FVec Ideal S1024x1x16 .f32) : FVec Ideal S1024x1024x32 .f32 :=
  shapeCast S1024x1024x32 (broadcastInDim S1024x1x1024x32 ![0, 1, 3] bcast_S1024x1x32_S1024x1x1024x32_0_1_3 (concatenate S1024x1x32 2 [⟨S1024x1x16, Host.sin g⟩, ⟨S1024x1x16, Host.cos g⟩] concatenates_S1024x1x16_S1024x1x16_S1024x1x32_d2)) shapeCasts_S1024x1x1024x32_S1024x1024x32

/-- The embedded series. -/
def refLin (a0 : FVec Ideal S1024x1024x1 .f32) (a3 : FVec Ideal S1x31 .f32) (a4 : FVec Ideal S31 .f32) : FVec Ideal S1024x1024x31 .f32 :=
  addf (Host.dotGeneral dot_S1024x1024x1_S1x31_S1024x1024x31_2_0_01_1_n_n none a0 a3) (broadcastInDim S1024x1024x31 ![0, 1, 2] bcast_S1x1x31_S1024x1024x31_0_1_2 (broadcastInDim S1x1x31 ![2] bcast_S31_S1x1x31_2 a4))

/-- The result of its three parts. -/
def refJoin (x : FVec Ideal S1024x1024x31 .f32) (y : FVec Ideal S1024x1024 .f32) (z : FVec Ideal S1024x1024x32 .f32) : FVec Ideal S1024x1024x64 .f32 :=
  concatenate S1024x1024x64 2 [⟨S1024x1024x31, x⟩, ⟨S1024x1024x1, broadcastInDim S1024x1024x1 ![0, 1] bcast_S1024x1024_S1024x1024x1_0_1 y⟩, ⟨S1024x1024x32, z⟩] concatenates_S1024x1024x31_S1024x1024x1_S1024x1024x32_S1024x1024x64_d2

theorem ref_eq (m : (ℓ : Loc nD τ sig) → Buf (Elt Ideal) ℓ) (c : Dev nD) : Cert.ReferenceIdeal.Value.res_main_v52 m c
    = refJoin (refLin (m ((c.tc : Thread nD τ).loc main_arg0)) (m ((c.tc : Thread nD τ).loc main_arg3)) (m ((c.tc : Thread nD τ).loc main_arg4)))
        (refClear (refOnes (refWrap (refPlace (m ((c.tc : Thread nD τ).loc main_arg1))))))
        (refWave (refAngle refFreq (m ((c.tc : Thread nD τ).loc main_arg2)))) := rfl

/-! ## Each part at an index -/

theorem join_at (x : FVec Ideal S1024x1024x31 .f32) (y : FVec Ideal S1024x1024 .f32) (z : FVec Ideal S1024x1024x32 .f32) (b l : Fin 1024) (f : Fin 64) :
    refJoin x y z (ix3 b l f) = if h : f.val < 31 then x (ix3 b l ⟨f.val, h⟩) else if h' : f.val < 32 then y (ix2 b l) else z (ix3 b l ⟨f.val - 32, by omega⟩) := by
  have hf := f.isLt
  pointwise [refJoin]
  by_cases h : f.val < 31
  · rw [dif_pos h, dif_pos h]
  · rw [dif_neg h, dif_neg h]
    by_cases h' : f.val < 32
    · have h2 : f.val - 31 < 1 := by omega
      rw [dif_pos h2, dif_pos h']
    · have h2 : ¬ f.val - 31 < 1 := by omega
      rw [dif_neg h2, dif_neg h']
      rfl

theorem lin_at (a0 : FVec Ideal S1024x1024x1 .f32) (a3 : FVec Ideal S1x31 .f32) (a4 : FVec Ideal S31 .f32) (b l : Fin 1024) (f : Fin 31) :
    refLin a0 a3 a4 (ix3 b l f) = (a0 (ix3 b l 0) * a3 (ix2 0 f) + a4 (ix1 f) : EReal) := by
  pointwise [refLin]
  rw [Fin.sum_univ_one]

theorem wave_at (g : FVec Ideal S1024x1x16 .f32) (b l : Fin 1024) (k : Fin 32) :
    refWave g (ix3 b l k) = if h : k.val < 16 then Ideal.sin (g (ix3 b 0 ⟨k.val, h⟩)) else Ideal.cos (g (ix3 b 0 ⟨k.val - 16, by omega⟩)) := by
  have hk := k.isLt
  pointwise [refWave]

theorem angle_at (fr : FVec Ideal S16 .f32) (a2 : FVec Ideal S1024x1x1 .f32) (b : Fin 1024) (k : Fin 16) :
    refAngle fr a2 (ix3 b 0 k) = (fr (ix1 k) * a2 (ix3 b 0 0) : EReal) := by
  pointwise [refAngle]

theorem bits_1000 : Ideal.ofBits .f32 0x447A0000#32 = ((1000 : ℝ) : EReal) := by
  simp [Ideal.ofBits, Ideal.ieee, -EReal.coe_mul]; norm_num
theorem bits_15 : Ideal.ofBits .f32 0x41700000#32 = ((15 : ℝ) : EReal) := by
  simp [Ideal.ofBits, Ideal.ieee, -EReal.coe_mul]; norm_num

theorem log_1000 : id (Host.log (constant (F := Ideal) S_ .f32 0x447A0000#32)) ix0 = ((Real.log 1000 : ℝ) : EReal) := by
  show Ideal.log (Ideal.ofBits .f32 0x447A0000#32) = _
  rw [bits_1000, Ideal.log_coe, if_neg (by norm_num)]
theorem log_1 : id (Host.log (constant (F := Ideal) S_ .f32 0x3F800000#32)) ix0 = (0 : EReal) := by
  show Ideal.log (Ideal.ofBits .f32 0x3F800000#32) = _
  rw [Ideal.ofBits_one_f32, ← EReal.coe_one, Ideal.log_coe, if_neg (by norm_num), Real.log_one, EReal.coe_zero]

/-- The frequencies are those of the kernel: the line from log 1 to log 1000 in fifteen steps is k times a fifteenth of
    log 1000. -/
theorem freq_at (k : Fin 16) : refFreq (ix1 k) = twoPi * freq k.val := by
  have hk := k.isLt
  pointwise [refFreq]
  unfold twoPi freq
  rw [log_1000, log_1, bits_15, lane_real _ hk, Ideal.div_coe (by norm_num)]
  congr 2
  by_cases h : k.val < 15
  · rw [dif_pos h, zero_mul, zero_add, ← EReal.coe_mul, ← EReal.coe_mul]
    congr 1
    ring
  · rw [dif_neg h, show k.val = 15 by omega]
    congr 1
    push_cast
    ring

/-- A word in range is its own clip. -/
theorem clip_of_lt (v : BitVec 32) (h : v.toNat < 1024) :
    IntOp.minsi (id (constantI S_ 32 1023#32) ix0) (IntOp.maxsi (id (constantI S_ 32 0#32) ix0) v) = v := by
  show IntOp.minsi 1023#32 (IntOp.maxsi 0#32 v) = v
  have hv : v.toInt = v.toNat := BitVec.toInt_eq_toNat_of_lt (by omega)
  have h0 : v.slt 0#32 = false := by
    simp only [BitVec.slt, hv, BitVec.toInt_zero, decide_eq_false_iff_not]; omega
  have h1 : (1023#32 : BitVec 32).slt v = false := by
    simp only [BitVec.slt, hv, show (1023#32 : BitVec 32).toInt = 1023 from rfl, decide_eq_false_iff_not]; omega
  unfold IntOp.maxsi
  rw [h0]
  unfold IntOp.minsi
  simp only [Bool.false_eq_true, if_false, h1]

/-- Place number 50 i + p is 1024 i plus the peak. -/
theorem place_at (a1 : IVec S1024x50x1 32) (ha : ∀ i, (a1 i).toNat < 1024) (i : Fin 1024) (p : Fin 50) (e : Fin 51200) (he : e.val = 50 * i.val + p.val) :
    (refPlace a1 (ix1 e)).toNat = 1024 * i.val + (a1 (ix3 i p 0)).toNat := by
  have hi := i.isLt
  have hp := p.isLt
  pointwise [refPlace]
  have e1 : e.val / 50 = i.val := by omega
  have e2 : e.val % 50 = p.val := by omega
  have hx := ha (ix3 i p 0)
  rw [clip_of_lt _ (by rw [BitVec.toNat_ofNat]; omega), clip_of_lt _ (ha _)]
  have e3 : (ix3 (⟨e.val / 50, by omega⟩ : Fin 1024) (⟨e.val % 50, by omega⟩ : Fin 50) (0 : Fin 1) : S1024x50x1.Idx) = ix3 i p 0 := by
    congr 1 <;> exact Fin.ext (by assumption)
  rw [congrArg a1 e3, e1]
  simp only [IntOp.addi, IntOp.muli, BitVec.toNat_add, BitVec.toNat_mul, BitVec.toNat_ofNat]
  omega

theorem wrap_at (q : IVec S51200 32) (e : Fin 51200) (hq : (q (ix1 e)).toNat < 2 ^ 20) : refWrap q (ix2 e 0) = q (ix1 e) := by
  pointwise [refWrap]
  exact Routing.wrap_of_lt _ _ (by omega)

/-! ## The scatters -/

/-- Update `k` of the first lands where its word says. -/
theorem ones_lands (p : IVec S51200x1 32) (k : Fin 51200) (x : Fin 1048576) :
    scatter_S1048576_S51200x1_S51200_n_0_0_1.resultIdx? (ix1 k) p = some (ix1 x) ↔ (p (ix2 k 0)).toInt = (x.val : Int) := by
  rw [Routing.resultIdx?_eq_some]
  have h0 : scatter_S1048576_S51200x1_S51200_n_0_0_1.window (ix1 k) 0 = 0 := rfl
  have h1 : scatter_S1048576_S51200x1_S51200_n_0_0_1.start (ix1 k) p 0 = (p (ix2 k 0)).toInt := by
    unfold ScatterDims.start
    refine (dif_pos (show (0 : Fin 1) ∈ [(0 : Fin 1)] by decide)).trans ?_
    congr 2
    funext a; fin_cases a <;> rfl
  refine ⟨fun h => ?_, fun h a => ?_⟩
  · have := h 0
    rw [h0, h1] at this
    simpa using this
  · obtain rfl : a = 0 := Fin.eq_zero a
    rw [h0, h1]
    simpa using h

/-- Update `k` of the second lands at row `k`, point 0. -/
theorem clear_lands (k : Fin 1024) (r c : Fin 1024) :
    scatter_S1024x1024_S1_S1024_0_1_1_0.resultIdx? (ix1 k) (broadcastInDim S1 ![] bcast_S_S1 (constantI S_ 32 0#32)) = some (ix2 r c) ↔ k.val = r.val ∧ c.val = 0 := by
  rw [Routing.resultIdx?_eq_some]
  have h0 : scatter_S1024x1024_S1_S1024_0_1_1_0.window (ix1 k) 0 = k.val := rfl
  have h1 : scatter_S1024x1024_S1_S1024_0_1_1_0.window (ix1 k) 1 = 0 := rfl
  have h2 : scatter_S1024x1024_S1_S1024_0_1_1_0.start (ix1 k) (broadcastInDim S1 ![] bcast_S_S1 (constantI S_ 32 0#32)) 0 = 0 := rfl
  have h3 : scatter_S1024x1024_S1_S1024_0_1_1_0.start (ix1 k) (broadcastInDim S1 ![] bcast_S_S1 (constantI S_ 32 0#32)) 1 = 0 := rfl
  refine ⟨fun h => ?_, fun h a => ?_⟩
  · have a0 := h 0
    have a1 := h 1
    rw [h0, h2] at a0
    rw [h1, h3] at a1
    change (0 : ℤ) + (k.val : ℤ) = (r.val : ℤ) at a0
    change (0 : ℤ) + ((0 : ℕ) : ℤ) = (c.val : ℤ) at a1
    omega
  · fin_cases a
    · show _ + (_ : ℤ) = ((r.val : ℕ) : ℤ)
      refine (congrArg₂ (fun (x : ℤ) (y : ℕ) => x + (y : ℤ)) h2 h0).trans ?_
      show (0 : ℤ) + (k.val : ℤ) = (r.val : ℤ)
      omega
    · show _ + (_ : ℤ) = ((c.val : ℕ) : ℤ)
      refine (congrArg₂ (fun (x : ℤ) (y : ℕ) => x + (y : ℤ)) h3 h1).trans ?_
      show (0 : ℤ) + ((0 : ℕ) : ℤ) = (c.val : ℤ)
      omega

theorem idx1_eq {n : ℕ} (x : (⟨1, ![n]⟩ : Shape).Idx) : x = ix1 (x 0) := by
  funext a
  obtain rfl : a = 0 := Fin.eq_zero a
  rfl

open Classical in
/-- A scatter that sets every element an update lands at to one value, read at an element. -/
theorem scatter_const {α : Type} {s si u : Shape} {w : ℕ} (d : ScatterDims s si u) (x : s.Idx → α) (idx : IVec si w) (upd : u.Idx → α) (y : α)
    (hu : ∀ k, upd k = y) (j : s.Idx) :
    Host.scatter d (fun _ b => b) x idx upd j = if ∃ k : u.Idx, d.resultIdx? k idx = some j then y else x j := by
  unfold Host.scatter
  refine (foldl_const _ (fun n i => d.resultIdx? (u.rowMajor.symm n) idx = some i) y ?_ j _ x).trans ?_
  · intro g n i
    generalize d.resultIdx? (u.rowMajor.symm n) idx = o
    cases o with
    | none => exact (if_neg (by simp)).symm
    | some q =>
      show (if i = q then upd _ else g i) = _
      by_cases e : i = q
      · rw [if_pos e, if_pos (by rw [e]), hu]
      · rw [if_neg e, if_neg (fun h => e (Option.some.inj h).symm)]
  · have hiff : (∃ n ∈ List.finRange u.numel, d.resultIdx? (u.rowMajor.symm n) idx = some j) ↔ ∃ k : u.Idx, d.resultIdx? k idx = some j :=
      ⟨fun ⟨n, _, h⟩ => ⟨_, h⟩, fun ⟨k, h⟩ => ⟨u.rowMajor k, List.mem_finRange _, by rw [Equiv.symm_apply_apply]; exact h⟩⟩
    by_cases h : ∃ k : u.Idx, d.resultIdx? k idx = some j
    · rw [if_pos h, if_pos (hiff.mpr h)]
    · rw [if_neg h, if_neg (mt hiff.mp h)]

/-- The reference's marks are the kernel's. -/
theorem marks_at (a1 : IVec S1024x50x1 32) (ha : ∀ i, (a1 i).toNat < 1024) (b l : Fin 1024) :
    refClear (refOnes (refWrap (refPlace a1))) (ix2 b l) = mark a1 b.val l.val := by
  have hb := b.isLt
  have hl := l.isLt
  have hplace : ∀ k : Fin 51200, (refWrap (refPlace a1) (ix2 k 0)).toInt
      = ((1024 * (k.val / 50) + (a1 (ix3 ⟨k.val / 50, by omega⟩ ⟨k.val % 50, by omega⟩ 0)).toNat : ℕ) : Int) := by
    intro k
    have hk := k.isLt
    have e := place_at a1 ha ⟨k.val / 50, by omega⟩ ⟨k.val % 50, by omega⟩ k (by show k.val = 50 * (k.val / 50) + k.val % 50; omega)
    have hlt := ha (ix3 ⟨k.val / 50, by omega⟩ ⟨k.val % 50, by omega⟩ 0)
    change (refPlace a1 (ix1 k)).toNat = 1024 * (k.val / 50) + _ at e
    rw [wrap_at _ k (by rw [e]; omega), BitVec.toInt_eq_toNat_of_lt (by rw [e]; omega), e]
  unfold refClear mark
  rw [scatter_const _ _ _ (broadcastInDim S1024 ![] bcast_S_S1024 (constant (F := Ideal) S_ .f32 0x00000000#32)) (zeroF (F := Ideal)) (fun _ => rfl)]
  have h1 : (∃ k : S1024.Idx, scatter_S1024x1024_S1_S1024_0_1_1_0.resultIdx? k (broadcastInDim S1 ![] bcast_S_S1 (constantI S_ 32 0#32)) = some (ix2 b l)) ↔ l.val = 0 := by
    constructor
    · rintro ⟨k, hk⟩
      rw [idx1_eq k] at hk
      exact ((clear_lands _ _ _).mp hk).2
    · exact fun h => ⟨ix1 b, (clear_lands _ _ _).mpr ⟨rfl, h⟩⟩
  by_cases h0 : l.val = 0
  · rw [if_pos (h1.mpr h0), if_neg (fun h => h.1 h0)]
  rw [if_neg (mt h1.mp h0)]
  have hx : b.val * 1024 + l.val < 1048576 := by omega
  refine (shapeCast_apply _ _ (ix2 b l) (ix1 ⟨b.val * 1024 + l.val, hx⟩) ?_).trans ?_
  · rw [Shape.rowMajor_val_one, Shape.rowMajor_val_two]; rfl
  unfold refOnes
  rw [scatter_const _ _ _ (broadcastInDim S51200 ![] bcast_S_S51200 (constant (F := Ideal) S_ .f32 0x3F800000#32)) (oneF (F := Ideal)) (fun _ => rfl)]
  have h2 : (∃ k : S51200.Idx, scatter_S1048576_S51200x1_S51200_n_0_0_1.resultIdx? k (refWrap (refPlace a1)) = some (ix1 ⟨b.val * 1024 + l.val, hx⟩)) ↔ Peak a1 b.val l.val := by
    constructor
    · rintro ⟨k, hk⟩
      rw [idx1_eq k] at hk
      have := (hplace (k 0)).symm.trans ((ones_lands _ _ _).mp hk)
      have hlt := ha (ix3 ⟨(k 0).val / 50, by have : (k 0).val < 51200 := (k 0).isLt; omega⟩ ⟨(k 0).val % 50, by omega⟩ 0)
      change ((1024 * ((k 0).val / 50) + _ : ℕ) : ℤ) = ((b.val * 1024 + l.val : ℕ) : ℤ) at this
      refine ⟨h0, ix3 ⟨(k 0).val / 50, by have : (k 0).val < 51200 := (k 0).isLt; omega⟩ ⟨(k 0).val % 50, by omega⟩ 0, ?_, ?_⟩
      · show (k 0).val / 50 = b.val
        omega
      · omega
    · rintro ⟨-, i, hi, hl'⟩
      have i1 : (i 1).val < 50 := (i 1).isLt
      have i2 : (i 2).val < 1 := (i 2).isLt
      have i0 : (i 0).val < 1024 := (i 0).isLt
      have hk : 50 * (i 0).val + (i 1).val < 51200 := by omega
      refine ⟨ix1 ⟨50 * (i 0).val + (i 1).val, hk⟩, (ones_lands _ _ _).mpr ((hplace _).trans ?_)⟩
      have e : (ix3 ⟨(50 * (i 0).val + (i 1).val) / 50, by omega⟩ ⟨(50 * (i 0).val + (i 1).val) % 50, by omega⟩ 0 : S1024x50x1.Idx) = i := by
        funext a; refine Fin.ext ?_; fin_cases a
        · show (50 * (i 0).val + (i 1).val) / 50 = (i 0).val; omega
        · show (50 * (i 0).val + (i 1).val) % 50 = (i 1).val; omega
        · show 0 = (i 2).val; omega
      have e' := congrArg (fun i => (a1 i).toNat) e
      change (a1 (ix3 _ _ 0)).toNat = (a1 i).toNat at e'
      show ((1024 * ((50 * (i 0).val + (i 1).val) / 50) + (a1 (ix3 _ _ 0)).toNat : ℕ) : ℤ) = ((b.val * 1024 + l.val : ℕ) : ℤ)
      rw [e', hl']
      omega
  by_cases h : Peak a1 b.val l.val
  · rw [if_pos h, if_pos (h2.mpr h)]
  · rw [if_neg h, if_neg (mt h2.mp h)]
    rfl

/-- The result at an index (batch row, point, feature). -/
theorem ref_at (m : (ℓ : Loc nD τ sig) → Buf (Elt Ideal) ℓ) (c : Dev nD) (a0 : S1024x1024x1.Idx → EReal) (a1 : IVec S1024x50x1 32) (a2 : S1024x1x1.Idx → EReal)
    (a3 : S1x31.Idx → EReal) (a4 : S31.Idx → EReal) (e0 : m ((c.tc : Thread nD τ).loc main_arg0) = a0) (e1 : m ((c.tc : Thread nD τ).loc main_arg1) = a1)
    (e2 : m ((c.tc : Thread nD τ).loc main_arg2) = a2) (e3 : m ((c.tc : Thread nD τ).loc main_arg3) = a3) (e4 : m ((c.tc : Thread nD τ).loc main_arg4) = a4)
    (ha : ∀ i, (a1 i).toNat < 1024) (b l : Fin 1024) (f : Fin 64) :
    (Cert.ReferenceIdeal.Value.res_main_v52 m c : S1024x1024x64.Idx → EReal) (ix3 b l f)
      = pad (fun k => a3 (ix2 0 k)) f * a0 (ix3 b l 0)
        + (if f.val = 31 then mark a1 b.val l.val else pad (fun k => a4 (ix1 k)) f + tail f.val (a2 (ix3 b 0 0))) := by
  have hf := f.isLt
  rw [ref_eq, e0, e1, e2, e3, e4]
  refine (join_at _ _ _ b l f).trans ?_
  unfold pad tail
  by_cases h : f.val < 31
  · rw [dif_pos h, dif_pos h, dif_pos h, if_neg (by omega), if_pos (by omega), lin_at, add_zero, mul_comm]
  · rw [dif_neg h, dif_neg h, dif_neg h, zero_mul, zero_add]
    by_cases h1 : f.val < 32
    · rw [dif_pos h1, if_pos (by omega), marks_at a1 ha]
    · rw [dif_neg h1, if_neg (by omega), if_neg h1, zero_add, wave_at]
      unfold ang
      by_cases h2 : f.val < 48
      · rw [if_pos h2, dif_pos (show f.val - 32 < 16 by omega), angle_at, freq_at, mul_comm]
      · rw [if_neg h2, dif_neg (show ¬ f.val - 32 < 16 by omega), angle_at, freq_at, mul_comm]
        show Ideal.cos (_ * (twoPi * freq (f.val - 32 - 16))) = _
        rw [show f.val - 32 - 16 = f.val - 48 by omega]

end Cert.Proof

end
-- ==== Proof.Algebraic.lean ====
/-
  The kernel's idealization and the reference compute one result: both are, at a batch row, a point and a feature, the
  weighted series plus the bias, the peak's mark, or a wave of the row's variance.
-/
module

public import proofs.«01_k».proof.Proof.Ref

@[expose] public section

noncomputable section

namespace Cert.Proof

open Cert.KernelIdeal Cert.KernelIdeal.Gen
open Idealize.ShloMosaic Idealize.ShloMosaic.TcCoe Idealize.SL.Sem

/-- An index of the result from its coordinates. -/
theorem idx3_eq (i : S1024x1024x64.Idx) : i = ix3 (n0 := 1024) (n1 := 1024) (n2 := 64) (i 0) (i 1) (i 2) := by
  funext a; fin_cases a <;> rfl

/-- From memories that agree on the arguments the two results are one. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (ha : ∀ i, ((m ((c.tc : Thread nD τ).loc main_arg1) : S1024x50x1.Idx → BitVec 32) i).toNat < 1024) :
    (Cert.ReferenceIdeal.Value.res_main_v52 m' c : S1024x1024x64.Idx → EReal) = V5 m c (Proc.devRef .tc main_v14) := by
  funext i
  rw [idx3_eq i]
  exact (ref_at m' c _ _ _ _ _ e0 e1 e2 e3 e4 ha (i 0) (i 1) (i 2)).trans (V5_out m c ha (i 0) (i 1) (i 2)).symm

theorem frame_ri_pre : Cert.quiescent_ReferenceIdeal_pre_peaks_in_range := fun m ρ _ => frame_ri m ρ trivial

theorem algebraic : Cert.algebraic_KernelIdeal_ReferenceIdeal := by
  intro m ρ m' ρ' hpre hagree
  have ha := fun d => peak_lt _ _ _ _ _ (hpre d)
  refine ⟨fun c => V5 m c (Proc.devRef .tc main_v14), ?_, ?_⟩
  · refine (θ_run (Cert.KernelIdeal.defs (F := Ideal)) _ _).mono (fun r h c => ?_) (run_main (F := Ideal) m ρ (preOK m ha))
    exact ⟨h.1 c main_v14 (by simp), (h.1 c main_arg0 (by simp)).trans (V5_arg m c main_arg0 (by simp)),
      (h.1 c main_arg1 (by simp)).trans (V5_arg m c main_arg1 (by simp)), (h.1 c main_arg2 (by simp)).trans (V5_arg m c main_arg2 (by simp)),
      (h.1 c main_arg3 (by simp)).trans (V5_arg m c main_arg3 (by simp)), (h.1 c main_arg4 (by simp)).trans (V5_arg m c main_arg4 (by simp))⟩
  · refine (θ_run Cert.ReferenceIdeal.defs _ _).mono (fun r h c => ⟨(h c).1.trans ?_, (h c).2⟩) (Cert.ReferenceIdeal.Value.run (F := Ideal) m' ρ')
    obtain ⟨e0, e1, e2, e3, e4⟩ := hagree c
    exact results_eq m m' c e0 e1 e2 e3 e4 (ha c)

end Cert.Proof

end
-- ==== Proof.lean ====
module

public import proofs.«01_k».proof.Proof.Algebraic
public import proofs.«01_k».proof.Defs

@[expose] public section

noncomputable section

namespace Cert.Proof

theorem claim : Cert.Claim := ⟨Cert.Kernel.Gen.facts, Cert.KernelIdeal.Gen.facts, Cert.ReferenceIdeal.Gen.facts, Cert.Pre_peaks_in_range.Gen.facts,
  frame_p, frame_pi, frame_ri, frame_ri_pre, preserves, algebraic⟩

end Cert.Proof

end
